-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mem [hPre_finite_mem : Cert.Pre_finite_mem.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mem.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_mem.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite_mem.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mem [hPre_finite_mem : Cert.Pre_finite_mem.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mem.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_mem.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite_mem.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_mem [hKernel5Ideal : Cert.Kernel5Ideal.Facts] [hPre_finite_mem : Cert.Pre_finite_mem.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mem m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_mem [hReference5Ideal : Cert.Reference5Ideal.Facts] [hPre_finite_mem : Cert.Pre_finite_mem.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mem m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "mask" .f32 0xF149F2CA#32 ⊥

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_mem [hKernel5Ideal : Cert.Kernel5Ideal.Facts] [hReference5Ideal : Cert.Reference5Ideal.Facts] [hPre_finite_mem : Cert.Pre_finite_mem.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mem m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qkv : Cert.Pre_finite_qkv.Facts) (hPre_finite_mem : Cert.Pre_finite_mem.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_mem (hKernel5Ideal := hKernel5Ideal) (hPre_finite_mem := hPre_finite_mem)
    ∧ quiescent_Reference5Ideal (hReference5Ideal := hReference5Ideal)
    ∧ quiescent_Reference5Ideal_pre_finite_mem (hReference5Ideal := hReference5Ideal) (hPre_finite_mem := hPre_finite_mem)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_mem (hKernel5Ideal := hKernel5Ideal) (hReference5Ideal := hReference5Ideal) (hPre_finite_mem := hPre_finite_mem)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_mem.lean ====
abbrev S4x2048x4096 : Shape := ⟨3, ![4, 2048, 4096]⟩
abbrev S4096 : Shape := ⟨1, ![4096]⟩
abbrev S4096x1024 : Shape := ⟨2, ![4096, 1024]⟩
abbrev S1024x2048 : Shape := ⟨2, ![1024, 2048]⟩
abbrev S1024x4096 : Shape := ⟨2, ![1024, 4096]⟩
abbrev S_ : Shape := ⟨0, ![]⟩
abbrev S1024x1024 : Shape := ⟨2, ![1024, 1024]⟩

class Facts : Prop where
  bcast_S_S4096 : S_.BroadcastsInDim S4096 (![] : Fin 0 → Fin S4096.rank)
  bcast_S_S4096x1024 : S_.BroadcastsInDim S4096x1024 (![] : Fin 0 → Fin S4096x1024.rank)
  slices_S1024x2048_S1024x1024_0_0 : S1024x2048.Slices ![0, 0] S1024x1024
  bitsLt_bf16_f32 : FTy.bits .bf16 < FTy.bits .f32
  bcast_S_S1024x1024 : S_.BroadcastsInDim S1024x1024 (![] : Fin 0 → Fin S1024x1024.rank)

variable [Facts]

def fn {F : FTy → Type} [FloatOps F] (main_arg0 : FVec F S4x2048x4096 .f32) (main_arg1 : FVec F S4096 .f32) (main_arg2 : FVec F S4096x1024 .f32) (main_arg3 : FVec F S1024x2048 .bf16) (main_arg4 : FVec F S1024x4096 .f32) : IVec S4096 1 × IVec S4096x1024 1 × IVec S1024x1024 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x1024 .bf16 := (extractStridedSlice S1024x1024 ![0, 0] · slices_S1024x2048_S1024x1024_0_0) main_arg3
  let main_v7 : FVec F S1024x1024 .f32 := (extf .f32 · bitsLt_bf16_f32) main_v6
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  (main_v2, main_v5, main_v10)
-- ==== Pre_finite_qkv.lean ====
abbrev S8192x9216 : Shape := ⟨2, ![8192, 9216]⟩
abbrev S16 : Shape := ⟨1, ![16]⟩
abbrev S_ : Shape := ⟨0, ![]⟩

class Facts : Prop where
  bitsLt_bf16_f32 : FTy.bits .bf16 < FTy.bits .f32
  bcast_S_S8192x9216 : S_.BroadcastsInDim S8192x9216 (![] : Fin 0 → Fin S8192x9216.rank)
  bcast_S_S16 : S_.BroadcastsInDim S16 (![] : Fin 0 → Fin S16.rank)

variable [Facts]

def fn {F : FTy → Type} [FloatOps F] (main_arg0 : FVec F S8192x9216 .bf16) (main_arg1 : FVec F S16 .f32) : IVec S8192x9216 1 × IVec S16 1 :=
  let main_v0 : FVec F S8192x9216 .f32 := (extf .f32 · bitsLt_bf16_f32) main_arg0
  let main_v1 : FVec F S8192x9216 .f32 := Host.absf main_v0
  let main_cst : FVec F S_ .f32 := constant S_ .f32 0x7F800000#32
  let main_v2 : FVec F S8192x9216 .f32 := broadcastInDim S8192x9216 ![] bcast_S_S8192x9216 main_cst
  let main_v3 : IVec S8192x9216 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== Kernel.lean ====
abbrev S8192x9216 : Shape := ⟨2, ![8192, 9216]⟩
abbrev S16 : Shape := ⟨1, ![16]⟩
abbrev S4x1x4x1 : Shape := ⟨4, ![4, 1, 4, 1]⟩
abbrev S4x1x4x128 : Shape := ⟨4, ![4, 1, 4, 128]⟩
abbrev S4x1x512 : Shape := ⟨3, ![4, 1, 512]⟩
abbrev S8192x2048 : Shape := ⟨2, ![8192, 2048]⟩
abbrev S512x512 : Shape := ⟨2, ![512, 512]⟩
abbrev S2048x128 : Shape := ⟨2, ![2048, 128]⟩
abbrev S1x1x512 : Shape := ⟨3, ![1, 1, 512]⟩
abbrev S1x512 : Shape := ⟨2, ![1, 512]⟩
abbrev S384x128 : Shape := ⟨2, ![384, 128]⟩
abbrev S128x384 : Shape := ⟨2, ![128, 384]⟩
abbrev S128x128 : Shape := ⟨2, ![128, 128]⟩
abbrev S512x128 : Shape := ⟨2, ![512, 128]⟩
abbrev S384x512 : Shape := ⟨2, ![384, 512]⟩
abbrev S512 : Shape := ⟨1, ![512]⟩
abbrev S128x512 : Shape := ⟨2, ![128, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x9216, .bf16⟩
  | .hbm, ⟨1, _⟩ => ⟨S16, .f32⟩
  | .hbm, ⟨2, _⟩ => ⟨S4x1x4x1, .f32⟩
  | .hbm, ⟨3, _⟩ => ⟨S4x1x4x128, .f32⟩
  | .hbm, ⟨4, _⟩ => ⟨S4x1x512, .f32⟩
  | .hbm, ⟨5, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x512, .f32⟩
  | .local _ .vmem, ⟨7, _⟩ => ⟨S1x1x512, .f32⟩
  | .local _ .vmem, ⟨8, _⟩ => ⟨S512x512, .bf16⟩
  | .local _ .vmem, ⟨9, _⟩ => ⟨S512x512, .bf16⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let c1664_i32 : BitVec 32 := 1664#32
  let c0_i32_2 : BitVec 32 := 0#32
  let arg2 : BitVec 32 := BitVec.ofNat 32 (i 2).val
  let c4_i32 : BitVec 32 := 4#32
  let v2 : BitVec 32 := Scalar.muli arg2 c4_i32
  let c0_i32 : BitVec 32 := 0#32
  let v3 : BitVec 32 := Scalar.addi v2 c0_i32
  let c1_i32 : BitVec 32 := 1#32
  let v4 : BitVec 32 := Scalar.subi v3 c1_i32
  let c128_i32 : BitVec 32 := 128#32
  let v5 : BitVec 32 := Scalar.muli v4 c128_i32
  let v6 : BitVec 32 := Scalar.maxsi c0_i32_2 v5
  let v7 : BitVec 32 := Scalar.minsi c1664_i32 v6
  v7
def k0_off1 (i : grid0.Coords) (c0_i32 : BitVec 32) : Fin 2 → Nat :=
  let c1664_i32 : BitVec 32 := 1664#32
  let c0_i32_2 : BitVec 32 := 0#32
  let arg2 : BitVec 32 := BitVec.ofNat 32 (i 2).val
  let c4_i32 : BitVec 32 := 4#32
  let v2 : BitVec 32 := Scalar.muli arg2 c4_i32
  let v3 : BitVec 32 := Scalar.addi v2 c0_i32
  let c1_i32 : BitVec 32 := 1#32
  let v4 : BitVec 32 := Scalar.subi v3 c1_i32
  let c128_i32 : BitVec 32 := 128#32
  let v5 : BitVec 32 := Scalar.muli v4 c128_i32
  let v6 : BitVec 32 := Scalar.maxsi c0_i32_2 v5
  let v7 : BitVec 32 := Scalar.minsi c1664_i32 v6
  let v8 : BitVec 32 := v7
  let v9 : Index := Scalar.indexCast v8
  let c0_3 : Index := 0#32
  ![v9.toNat, 0]
def k0_mult2 (i : grid0.Coords) : BitVec 32 :=
  let c1664_i32_19 : BitVec 32 := 1664#32
  let c0_i32_18 : BitVec 32 := 0#32
  let arg2 : BitVec 32 := BitVec.ofNat 32 (i 2).val
  let c4_i32_14 : BitVec 32 := 4#32
  let v38 : BitVec 32 := Scalar.muli arg2 c4_i32_14
  let c1_i32_15 : BitVec 32 := 1#32
  let v39 : BitVec 32 := Scalar.addi v38 c1_i32_15
  let c1_i32_16 : BitVec 32 := 1#32
  let v40 : BitVec 32 := Scalar.subi v39 c1_i32_16
  let c128_i32_17 : BitVec 32 := 128#32
  let v41 : BitVec 32 := Scalar.muli v40 c128_i32_17
  let v42 : BitVec 32 := Scalar.maxsi c0_i32_18 v41
  let v43 : BitVec 32 := Scalar.minsi c1664_i32_19 v42
  v43
def k0_mult3 (i : grid0.Coords) : BitVec 32 :=
  let c1664_i32_39 : BitVec 32 := 1664#32
  let c0_i32_38 : BitVec 32 := 0#32
  let arg2 : BitVec 32 := BitVec.ofNat 32 (i 2).val
  let c4_i32_35 : BitVec 32 := 4#32
  let v74 : BitVec 32 := Scalar.muli arg2 c4_i32_35
  let c2_i32 : BitVec 32 := 2#32
  let v75 : BitVec 32 := Scalar.addi v74 c2_i32
  let c1_i32_36 : BitVec 32 := 1#32
  let v76 : BitVec 32 := Scalar.subi v75 c1_i32_36
  let c128_i32_37 : BitVec 32 := 128#32
  let v77 : BitVec 32 := Scalar.muli v76 c128_i32_37
  let v78 : BitVec 32 := Scalar.maxsi c0_i32_38 v77
  let v79 : BitVec 32 := Scalar.minsi c1664_i32_39 v78
  v79
def k0_mult4 (i : grid0.Coords) : BitVec 32 :=
  let c1664_i32_59 : BitVec 32 := 1664#32
  let c0_i32_58 : BitVec 32 := 0#32
  let arg2 : BitVec 32 := BitVec.ofNat 32 (i 2).val
  let c4_i32_55 : BitVec 32 := 4#32
  let v110 : BitVec 32 := Scalar.muli arg2 c4_i32_55
  let c3_i32 : BitVec 32 := 3#32
  let v111 : BitVec 32 := Scalar.addi v110 c3_i32
  let c1_i32_56 : BitVec 32 := 1#32
  let v112 : BitVec 32 := Scalar.subi v111 c1_i32_56
  let c128_i32_57 : BitVec 32 := 128#32
  let v113 : BitVec 32 := Scalar.muli v112 c128_i32_57
  let v114 : BitVec 32 := Scalar.maxsi c0_i32_58 v113
  let v115 : BitVec 32 := Scalar.minsi c1664_i32_59 v114
  v115
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S8192x9216 : Shape := ⟨2, ![8192, 9216]⟩
abbrev S16 : Shape := ⟨1, ![16]⟩
abbrev S4x2048x9216 : Shape := ⟨3, ![4, 2048, 9216]⟩
abbrev S4x2048x2048 : Shape := ⟨3, ![4, 2048, 2048]⟩
abbrev S4x2048x4x4x128 : Shape := ⟨5, ![4, 2048, 4, 4, 128]⟩
abbrev S4x2048x512 : Shape := ⟨3, ![4, 2048, 512]⟩
abbrev S4x2048x4x128 : Shape := ⟨4, ![4, 2048, 4, 128]⟩
abbrev S4x4x2048x2048x4 : Shape := ⟨5, ![4, 4, 2048, 2048, 4]⟩
abbrev S4x4x4x2048x2048 : Shape := ⟨5, ![4, 4, 4, 2048, 2048]⟩
abbrev S_ : Shape := ⟨0, ![]⟩
abbrev S2048x2048 : Shape := ⟨2, ![2048, 2048]⟩
abbrev S1x1x1x2048x2048 : Shape := ⟨5, ![1, 1, 1, 2048, 2048]⟩
abbrev S4x4 : Shape := ⟨2, ![4, 4]⟩
abbrev S1x4x4x1x1 : Shape := ⟨5, ![1, 4, 4, 1, 1]⟩
abbrev S4x4x4x2048 : Shape := ⟨4, ![4, 4, 4, 2048]⟩
abbrev S4x4x4x2048x1 : Shape := ⟨5, ![4, 4, 4, 2048, 1]⟩
abbrev S4x4x128x4x2048 : Shape := ⟨5, ![4, 4, 128, 4, 2048]⟩
abbrev S8192x2048 : Shape := ⟨2, ![8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S16, .f32⟩
  | .hbm, ⟨2, _⟩ => ⟨S8192x9216, .f32⟩
  | .hbm, ⟨3, _⟩ => ⟨S4x2048x9216, .f32⟩
  | .hbm, ⟨4, _⟩ => ⟨S4x2048x2048, .f32⟩
  | .hbm, ⟨5, _⟩ => ⟨S4x2048x4x4x128, .f32⟩
  | .hbm, ⟨6, _⟩ => ⟨S4x2048x512, .f32⟩
  | .hbm, ⟨7, _⟩ => ⟨S4x2048x4x128, .f32⟩
  | .hbm, ⟨8, _⟩ => ⟨S4x2048x512, .f32⟩
  | .hbm, ⟨9, _⟩ => ⟨S4x2048x4x128, .f32⟩
  | .hbm, ⟨10, _⟩ => ⟨S4x4x2048x2048x4, .f32⟩
  | .hbm, ⟨11, _⟩ => ⟨S4x4x4x2048x2048, .f32⟩
  | .hbm, ⟨12, _⟩ => ⟨S_, .f32⟩
  | .hbm, ⟨13, _⟩ => ⟨S_, .f32⟩
  | .hbm, ⟨14, _⟩ => ⟨S4x4x4x2048x2048, .f32⟩
  | .hbm, ⟨15, _⟩ => ⟨S4x4x4x2048x2048, .f32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S1x1x1x2048x2048, .i1⟩
  | .hbm, ⟨24, _⟩ => ⟨S_, .f32⟩
  | .hbm, ⟨25, _⟩ => ⟨S_, .f32⟩
  | .hbm, ⟨26, _⟩ => ⟨S4x4x4x2048x2048, .i1⟩
  | .hbm, ⟨27, _⟩ => ⟨S4x4x4x2048x2048, .f32⟩
  | .hbm, ⟨28, _⟩ => ⟨S4x4x4x2048x2048, .f32⟩
  | .hbm, ⟨29, _⟩ => ⟨S4x4, .f32⟩
  | .hbm, ⟨30, _⟩ => ⟨S1x4x4x1x1, .f32⟩
  | .hbm, ⟨31, _⟩ => ⟨S_, .f32⟩
  | .hbm, ⟨32, _⟩ => ⟨S4x4x4x2048, .f32⟩
  | .hbm, ⟨33, _⟩ => ⟨S4x4x4x2048x1, .f32⟩
  | .hbm, ⟨34, _⟩ => ⟨S4x4x4x2048x1, .f32⟩
  | .hbm, ⟨35, _⟩ => ⟨S4x4x4x2048x1, .f32⟩
  | .hbm, ⟨36, _⟩ => ⟨S4x4x4x2048x2048, .f32⟩
  | .hbm, ⟨37, _⟩ => ⟨S4x4x4x2048x2048, .f32⟩
  | .hbm, ⟨38, _⟩ => ⟨S4x4x4x2048x2048, .f32⟩
  | .hbm, ⟨39, _⟩ => ⟨S_, .f32⟩
  | .hbm, ⟨40, _⟩ => ⟨S4x4x4x2048, .f32⟩
  | .hbm, ⟨41, _⟩ => ⟨S4x4x4x2048x1, .f32⟩
  | .hbm, ⟨42, _⟩ => ⟨S4x4x4x2048x1, .f32⟩
  | .hbm, ⟨43, _⟩ => ⟨S4x4x4x2048x1, .f32⟩
  | .hbm, ⟨44, _⟩ => ⟨S4x4x4x2048x1, .f32⟩
  | .hbm, ⟨45, _⟩ => ⟨S4x4x4x2048x1, .f32⟩
  | .hbm, ⟨46, _⟩ => ⟨S4x4x4x2048x2048, .f32⟩
  | .hbm, ⟨47, _⟩ => ⟨S4x4x4x2048x2048, .f32⟩
  | .hbm, ⟨48, _⟩ => ⟨S4x4x128x4x2048, .f32⟩
  | .hbm, ⟨49, _⟩ => ⟨S4x2048x4x4x128, .f32⟩
  | .hbm, ⟨50, _⟩ => ⟨S8192x2048, .f32⟩
  | .hbm, ⟨51, _⟩ => ⟨S8192x2048, .bf16⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel2.lean ====
abbrev S4x2048x4096 : Shape := ⟨3, ![4, 2048, 4096]⟩
abbrev S4096 : Shape := ⟨1, ![4096]⟩
abbrev S4096x9216 : Shape := ⟨2, ![4096, 9216]⟩
abbrev S8192x4096 : Shape := ⟨2, ![8192, 4096]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x4096 : Shape := ⟨2, ![1, 4096]⟩
abbrev S8192x9216 : Shape := ⟨2, ![8192, 9216]⟩
abbrev S512x4096 : Shape := ⟨2, ![512, 4096]⟩
abbrev S4096x1024 : Shape := ⟨2, ![4096, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩

abbrev nBuf : Space → Nat
  | .hbm => 27
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x9216, .f32⟩
  | .hbm, ⟨3, _⟩ => ⟨S8192x4096, .f32⟩
  | .hbm, ⟨4, _⟩ => ⟨S4096x9216, .bf16⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S2048, .i32⟩
  | .hbm, ⟨14, _⟩ => ⟨S2048, .f32⟩
  | .hbm, ⟨15, _⟩ => ⟨S2048x1, .f32⟩
  | .hbm, ⟨16, _⟩ => ⟨S1x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x128, .f32⟩
  | .hbm, ⟨23, _⟩ => ⟨S2048x64, .f32⟩
  | .hbm, ⟨24, _⟩ => ⟨S2048x128, .f32⟩
  | .hbm, ⟨25, _⟩ => ⟨S1x4096, .f32⟩
  | .hbm, ⟨26, _⟩ => ⟨S8192x9216, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 9], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .eq arg1 c2_i32_5
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c3_i32 : BitVec 32 := 3#32
  let v13 : BitVec 1 := Scalar.cmpi .sge arg1 c3_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x2048x4096 : Shape := ⟨3, ![4, 2048, 4096]⟩
abbrev S4096 : Shape := ⟨1, ![4096]⟩
abbrev S4096x9216 : Shape := ⟨2, ![4096, 9216]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x9216 : Shape := ⟨3, ![4, 2048, 9216]⟩
abbrev S2048 : Shape := ⟨1, ![2048]⟩
abbrev S4x2048x2048 : Shape := ⟨3, ![4, 2048, 2048]⟩
abbrev S4x2048x16x128 : Shape := ⟨4, ![4, 2048, 16, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x16x64 : Shape := ⟨4, ![4, 2048, 16, 64]⟩
abbrev S4x2048x512 : Shape := ⟨3, ![4, 2048, 512]⟩
abbrev S4x2048x4x128 : Shape := ⟨4, ![4, 2048, 4, 128]⟩
abbrev S4x2048x4x64 : Shape := ⟨4, ![4, 2048, 4, 64]⟩
abbrev S4x2048x6656 : Shape := ⟨3, ![4, 2048, 6656]⟩
abbrev S8192x9216 : Shape := ⟨2, ![8192, 9216]⟩

abbrev nBuf : Space → Nat
  | .hbm => 93
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x9216, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S4x2048x9216, .f32⟩
  | .hbm, ⟨20, _⟩ => ⟨S2048, .i32⟩
  | .hbm, ⟨21, _⟩ => ⟨S4x2048x2048, .f32⟩
  | .hbm, ⟨22, _⟩ => ⟨S4x2048x16x128, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S2048, .f32⟩
  | .hbm, ⟨32, _⟩ => ⟨S2048x1, .f32⟩
  | .hbm, ⟨33, _⟩ => ⟨S1x64, .f32⟩
  | .hbm, ⟨34, _⟩ => ⟨S2048x64, .f32⟩
  | .hbm, ⟨35, _⟩ => ⟨S2048x64, .f32⟩
  | .hbm, ⟨36, _⟩ => ⟨S2048x64, .f32⟩
  | .hbm, ⟨37, _⟩ => ⟨S2048x64, .f32⟩
  | .hbm, ⟨38, _⟩ => ⟨S1x2048x1x64, .f32⟩
  | .hbm, ⟨39, _⟩ => ⟨S2048x64, .f32⟩
  | .hbm, ⟨40, _⟩ => ⟨S1x2048x1x64, .f32⟩
  | .hbm, ⟨41, _⟩ => ⟨S4x2048x16x64, .f32⟩
  | .hbm, ⟨42, _⟩ => ⟨S4x2048x16x64, .f32⟩
  | .hbm, ⟨43, _⟩ => ⟨S4x2048x16x64, .f32⟩
  | .hbm, ⟨44, _⟩ => ⟨S4x2048x16x64, .f32⟩
  | .hbm, ⟨45, _⟩ => ⟨S4x2048x16x64, .f32⟩
  | .hbm, ⟨46, _⟩ => ⟨S4x2048x16x64, .f32⟩
  | .hbm, ⟨47, _⟩ => ⟨S4x2048x16x64, .f32⟩
  | .hbm, ⟨48, _⟩ => ⟨S4x2048x16x64, .f32⟩
  | .hbm, ⟨49, _⟩ => ⟨S4x2048x16x64, .f32⟩
  | .hbm, ⟨50, _⟩ => ⟨S4x2048x16x64, .f32⟩
  | .hbm, ⟨51, _⟩ => ⟨S4x2048x16x64, .f32⟩
  | .hbm, ⟨52, _⟩ => ⟨S4x2048x16x64, .f32⟩
  | .hbm, ⟨53, _⟩ => ⟨S4x2048x16x128, .f32⟩
  | .hbm, ⟨54, _⟩ => ⟨S4x2048x512, .f32⟩
  | .hbm, ⟨55, _⟩ => ⟨S4x2048x4x128, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S2048, .f32⟩
  | .hbm, ⟨65, _⟩ => ⟨S2048x1, .f32⟩
  | .hbm, ⟨66, _⟩ => ⟨S1x64, .f32⟩
  | .hbm, ⟨67, _⟩ => ⟨S2048x64, .f32⟩
  | .hbm, ⟨68, _⟩ => ⟨S2048x64, .f32⟩
  | .hbm, ⟨69, _⟩ => ⟨S2048x64, .f32⟩
  | .hbm, ⟨70, _⟩ => ⟨S2048x64, .f32⟩
  | .hbm, ⟨71, _⟩ => ⟨S1x2048x1x64, .f32⟩
  | .hbm, ⟨72, _⟩ => ⟨S2048x64, .f32⟩
  | .hbm, ⟨73, _⟩ => ⟨S1x2048x1x64, .f32⟩
  | .hbm, ⟨74, _⟩ => ⟨S4x2048x4x64, .f32⟩
  | .hbm, ⟨75, _⟩ => ⟨S4x2048x4x64, .f32⟩
  | .hbm, ⟨76, _⟩ => ⟨S4x2048x4x64, .f32⟩
  | .hbm, ⟨77, _⟩ => ⟨S4x2048x4x64, .f32⟩
  | .hbm, ⟨78, _⟩ => ⟨S4x2048x4x64, .f32⟩
  | .hbm, ⟨79, _⟩ => ⟨S4x2048x4x64, .f32⟩
  | .hbm, ⟨80, _⟩ => ⟨S4x2048x4x64, .f32⟩
  | .hbm, ⟨81, _⟩ => ⟨S4x2048x4x64, .f32⟩
  | .hbm, ⟨82, _⟩ => ⟨S4x2048x4x64, .f32⟩
  | .hbm, ⟨83, _⟩ => ⟨S4x2048x4x64, .f32⟩
  | .hbm, ⟨84, _⟩ => ⟨S4x2048x4x64, .f32⟩
  | .hbm, ⟨85, _⟩ => ⟨S4x2048x4x64, .f32⟩
  | .hbm, ⟨86, _⟩ => ⟨S4x2048x4x128, .f32⟩
  | .hbm, ⟨87, _⟩ => ⟨S4x2048x2048, .f32⟩
  | .hbm, ⟨88, _⟩ => ⟨S4x2048x512, .f32⟩
  | .hbm, ⟨89, _⟩ => ⟨S4x2048x6656, .f32⟩
  | .hbm, ⟨90, _⟩ => ⟨S4x2048x9216, .f32⟩
  | .hbm, ⟨91, _⟩ => ⟨S8192x9216, .f32⟩
  | .hbm, ⟨92, _⟩ => ⟨S8192x9216, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_4 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S4096x4096 : Shape := ⟨2, ![4096, 4096]⟩
abbrev S4x2048x4096 : Shape := ⟨3, ![4, 2048, 4096]⟩
abbrev S8192x4096 : Shape := ⟨2, ![8192, 4096]⟩
abbrev S1x2048 : Shape := ⟨2, ![1, 2048]⟩
abbrev S1024x2048 : Shape := ⟨2, ![1024, 2048]⟩
abbrev S4096x512 : Shape := ⟨2, ![4096, 512]⟩
abbrev S1024x512 : Shape := ⟨2, ![1024, 512]⟩
abbrev S1024x4096 : Shape := ⟨2, ![1024, 4096]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048, .f32⟩
  | .hbm, ⟨3, _⟩ => ⟨S2048, .f32⟩
  | .hbm, ⟨4, _⟩ => ⟨S4096x4096, .f32⟩
  | .hbm, ⟨5, _⟩ => ⟨S4x2048x4096, .f32⟩
  | .hbm, ⟨6, _⟩ => ⟨S4096x4096, .bf16⟩
  | .hbm, ⟨7, _⟩ => ⟨S8192x4096, .f32⟩
  | .hbm, ⟨8, _⟩ => ⟨S1x2048, .f32⟩
  | .hbm, ⟨9, _⟩ => ⟨S1x2048, .f32⟩
  | .hbm, ⟨10, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S4096x512, .bf16⟩
  | .local _ .vmem, ⟨7, _⟩ => ⟨S4096x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x4096, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x2048 : Shape := ⟨2, ![8192, 2048]⟩
abbrev S2048 : Shape := ⟨1, ![2048]⟩
abbrev S4096x4096 : Shape := ⟨2, ![4096, 4096]⟩
abbrev S4x2048x4096 : Shape := ⟨3, ![4, 2048, 4096]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x4096 : Shape := ⟨2, ![8192, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048, .f32⟩
  | .hbm, ⟨3, _⟩ => ⟨S2048, .f32⟩
  | .hbm, ⟨4, _⟩ => ⟨S4096x4096, .f32⟩
  | .hbm, ⟨5, _⟩ => ⟨S4x2048x4096, .f32⟩
  | .hbm, ⟨6, _⟩ => ⟨S8192x2048, .f32⟩
  | .hbm, ⟨7, _⟩ => ⟨S4x2048x2048, .f32⟩
  | .hbm, ⟨8, _⟩ => ⟨S8192x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S4x2048x2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S1x1x2048, .f32⟩
  | .hbm, ⟨40, _⟩ => ⟨S4x2048x2048, .f32⟩
  | .hbm, ⟨41, _⟩ => ⟨S4x2048x2048, .f32⟩
  | .hbm, ⟨42, _⟩ => ⟨S4x2048x4096, .f32⟩
  | .hbm, ⟨43, _⟩ => ⟨S4x2048x4096, .f32⟩
  | .hbm, ⟨44, _⟩ => ⟨S4x2048x4096, .f32⟩
  | .hbm, ⟨45, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel4.lean ====
abbrev S4x256x4096 : Shape := ⟨3, ![4, 256, 4096]⟩
abbrev S4096 : Shape := ⟨1, ![4096]⟩
abbrev S4096x1024 : Shape := ⟨2, ![4096, 1024]⟩
abbrev S4096x2048 : Shape := ⟨2, ![4096, 2048]⟩
abbrev S1024x4096 : Shape := ⟨2, ![1024, 4096]⟩
abbrev S1x4096 : Shape := ⟨2, ![1, 4096]⟩
abbrev S1024x2048 : Shape := ⟨2, ![1024, 2048]⟩
abbrev S512x4096 : Shape := ⟨2, ![512, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x2048, .bf16⟩
  | .hbm, ⟨6, _⟩ => ⟨S1024x4096, .f32⟩
  | .hbm, ⟨7, _⟩ => ⟨S1x4096, .f32⟩
  | .hbm, ⟨8, _⟩ => ⟨S1024x2048, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S512x512, .bf16⟩
  | .local _ .vmem, ⟨6, _⟩ => ⟨S512x512, .bf16⟩
  | .local _ .vmem, ⟨7, _⟩ => ⟨S512x4096, .bf16⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x256x4096 : Shape := ⟨3, ![4, 256, 4096]⟩
abbrev S4096 : Shape := ⟨1, ![4096]⟩
abbrev S4096x1024 : Shape := ⟨2, ![4096, 1024]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩
abbrev S4x256x1024 : Shape := ⟨3, ![4, 256, 1024]⟩
abbrev S4x256x2048 : Shape := ⟨3, ![4, 256, 2048]⟩
abbrev S1024x2048 : Shape := ⟨2, ![1024, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096, .f32⟩
  | .hbm, ⟨2, _⟩ => ⟨S4096x1024, .f32⟩
  | .hbm, ⟨3, _⟩ => ⟨S4096x1024, .f32⟩
  | .hbm, ⟨4, _⟩ => ⟨S4x256x4096, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x4096, .f32⟩
  | .hbm, ⟨16, _⟩ => ⟨S4x256x4096, .f32⟩
  | .hbm, ⟨17, _⟩ => ⟨S1x1x4096, .f32⟩
  | .hbm, ⟨18, _⟩ => ⟨S4x256x4096, .f32⟩
  | .hbm, ⟨19, _⟩ => ⟨S4x256x4096, .f32⟩
  | .hbm, ⟨20, _⟩ => ⟨S4x256x1024, .f32⟩
  | .hbm, ⟨21, _⟩ => ⟨S4x256x1024, .f32⟩
  | .hbm, ⟨22, _⟩ => ⟨S4x256x2048, .f32⟩
  | .hbm, ⟨23, _⟩ => ⟨S1024x2048, .f32⟩
  | .hbm, ⟨24, _⟩ => ⟨S1024x2048, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S4x2048x4096 : Shape := ⟨3, ![4, 2048, 4096]⟩
abbrev S4096 : Shape := ⟨1, ![4096]⟩
abbrev S4096x1024 : Shape := ⟨2, ![4096, 1024]⟩
abbrev S1024x2048 : Shape := ⟨2, ![1024, 2048]⟩
abbrev S1024x4096 : Shape := ⟨2, ![1024, 4096]⟩
abbrev S8192x4096 : Shape := ⟨2, ![8192, 4096]⟩
abbrev S1x4096 : Shape := ⟨2, ![1, 4096]⟩
abbrev S512x4096 : Shape := ⟨2, ![512, 4096]⟩
abbrev S256x2048 : Shape := ⟨2, ![256, 2048]⟩
abbrev S512 : Shape := ⟨1, ![512]⟩
abbrev S512x1 : Shape := ⟨2, ![512, 1]⟩
abbrev S512x1024 : Shape := ⟨2, ![512, 1024]⟩
abbrev S256x256 : Shape := ⟨2, ![256, 256]⟩
abbrev S512x256 : Shape := ⟨2, ![512, 256]⟩

abbrev nBuf : Space → Nat
  | .hbm => 10
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x1024, .f32⟩
  | .hbm, ⟨3, _⟩ => ⟨S1024x2048, .bf16⟩
  | .hbm, ⟨4, _⟩ => ⟨S1024x4096, .f32⟩
  | .hbm, ⟨5, _⟩ => ⟨S8192x4096, .f32⟩
  | .hbm, ⟨6, _⟩ => ⟨S4096x1024, .bf16⟩
  | .hbm, ⟨7, _⟩ => ⟨S1024x4096, .bf16⟩
  | .hbm, ⟨8, _⟩ => ⟨S1x4096, .f32⟩
  | .hbm, ⟨9, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S256x2048, .bf16⟩
  | .local _ .vmem, ⟨5, _⟩ => ⟨S256x2048, .bf16⟩
  | .local _ .vmem, ⟨6, _⟩ => ⟨S1024x4096, .bf16⟩
  | .local _ .vmem, ⟨7, _⟩ => ⟨S512x4096, .f32⟩
  | .local _ .vmem, ⟨8, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4x2048x4096 : Shape := ⟨3, ![4, 2048, 4096]⟩
abbrev S4096 : Shape := ⟨1, ![4096]⟩
abbrev S4096x1024 : Shape := ⟨2, ![4096, 1024]⟩
abbrev S1024x2048 : Shape := ⟨2, ![1024, 2048]⟩
abbrev S1024x4096 : Shape := ⟨2, ![1024, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x256x2048 : Shape := ⟨3, ![4, 256, 2048]⟩
abbrev S4x2048x1024 : Shape := ⟨3, ![4, 2048, 1024]⟩
abbrev S4x2048x4x256 : Shape := ⟨4, ![4, 2048, 4, 256]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S8192x4096 : Shape := ⟨2, ![8192, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x1024, .f32⟩
  | .hbm, ⟨3, _⟩ => ⟨S1024x2048, .bf16⟩
  | .hbm, ⟨4, _⟩ => ⟨S1024x4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S1024x2048, .f32⟩
  | .hbm, ⟨22, _⟩ => ⟨S4x256x2048, .f32⟩
  | .hbm, ⟨23, _⟩ => ⟨S4x2048x1024, .f32⟩
  | .hbm, ⟨24, _⟩ => ⟨S4x2048x4x256, .f32⟩
  | .hbm, ⟨25, _⟩ => ⟨S4x256x1024, .f32⟩
  | .hbm, ⟨26, _⟩ => ⟨S4x256x4x256, .f32⟩
  | .hbm, ⟨27, _⟩ => ⟨S4x256x1024, .f32⟩
  | .hbm, ⟨28, _⟩ => ⟨S4x256x4x256, .f32⟩
  | .hbm, ⟨29, _⟩ => ⟨S4x4x2048x256, .f32⟩
  | .hbm, ⟨30, _⟩ => ⟨S_, .f32⟩
  | .hbm, ⟨31, _⟩ => ⟨S4x4x2048x256, .f32⟩
  | .hbm, ⟨32, _⟩ => ⟨S4x4x2048x256, .f32⟩
  | .hbm, ⟨33, _⟩ => ⟨S_, .f32⟩
  | .hbm, ⟨34, _⟩ => ⟨S4x4x2048, .f32⟩
  | .hbm, ⟨35, _⟩ => ⟨S_, .f32⟩
  | .hbm, ⟨36, _⟩ => ⟨S4x4x2048, .f32⟩
  | .hbm, ⟨37, _⟩ => ⟨S4x4x2048, .f32⟩
  | .hbm, ⟨38, _⟩ => ⟨S4x4x2048x1, .f32⟩
  | .hbm, ⟨39, _⟩ => ⟨S4x4x2048x256, .f32⟩
  | .hbm, ⟨40, _⟩ => ⟨S4x4x2048x256, .f32⟩
  | .hbm, ⟨41, _⟩ => ⟨S4x4x2048x256, .f32⟩
  | .hbm, ⟨42, _⟩ => ⟨S_, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x256x2048, .f32⟩
  | .hbm, ⟨48, _⟩ => ⟨S4x2048x4x256, .f32⟩
  | .hbm, ⟨49, _⟩ => ⟨S4x2048x1024, .f32⟩
  | .hbm, ⟨50, _⟩ => ⟨S4x2048x4096, .f32⟩
  | .hbm, ⟨51, _⟩ => ⟨S4x2048x4096, .f32⟩
  | .hbm, ⟨52, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel6.lean ====
abbrev S4x2048x4096 : Shape := ⟨3, ![4, 2048, 4096]⟩
abbrev S4096 : Shape := ⟨1, ![4096]⟩
abbrev S4096x2048 : Shape := ⟨2, ![4096, 2048]⟩
abbrev S8192x4096 : Shape := ⟨2, ![8192, 4096]⟩
abbrev S1x4096 : Shape := ⟨2, ![1, 4096]⟩
abbrev S8192x2048 : Shape := ⟨2, ![8192, 2048]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x2048, .f32⟩
  | .hbm, ⟨3, _⟩ => ⟨S8192x4096, .f32⟩
  | .hbm, ⟨4, _⟩ => ⟨S4096x2048, .bf16⟩
  | .hbm, ⟨5, _⟩ => ⟨S1x4096, .f32⟩
  | .hbm, ⟨6, _⟩ => ⟨S8192x2048, .bf16⟩
  | .hbm, ⟨7, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x2048, .bf16⟩
  | .local _ .vmem, ⟨4, _⟩ => ⟨S512x2048, .bf16⟩
  | .local _ .vmem, ⟨5, _⟩ => ⟨S512x2048, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4x2048x4096 : Shape := ⟨3, ![4, 2048, 4096]⟩
abbrev S4096 : Shape := ⟨1, ![4096]⟩
abbrev S4096x2048 : Shape := ⟨2, ![4096, 2048]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x2048, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S8192x4096, .f32⟩
  | .hbm, ⟨20, _⟩ => ⟨S8192x2048, .f32⟩
  | .hbm, ⟨21, _⟩ => ⟨S8192x2048, .bf16⟩
  | .hbm, ⟨22, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S4x2048x4096 : Shape := ⟨3, ![4, 2048, 4096]⟩
abbrev S4096x8192 : Shape := ⟨2, ![4096, 8192]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x2048x4096 : Shape := ⟨3, ![4, 2048, 4096]⟩
abbrev S4096x8192 : Shape := ⟨2, ![4096, 8192]⟩
abbrev S4096 : Shape := ⟨1, ![4096]⟩
abbrev S8192x4096 : Shape := ⟨2, ![8192, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8192, .f32⟩
  | .hbm, ⟨2, _⟩ => ⟨S4096, .f32⟩
  | .hbm, ⟨3, _⟩ => ⟨S8192x4096, .f32⟩
  | .hbm, ⟨4, _⟩ => ⟨S4x2048x4096, .f32⟩
  | .hbm, ⟨5, _⟩ => ⟨S4x2048x4096, .f32⟩
  | .hbm, ⟨6, _⟩ => ⟨S4x2048x4096, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Calls.Band.lean ====
/- Attention with a sink over a band of keys: the softmax over all keys, the keys outside the band masked, is the softmax
   over the band alone. -/
module

public import Idealize.ShloMosaic.Lib.Pointwise
public import Idealize.ShloMosaic.Lib.IdealHost

@[expose] public section

noncomputable section

open Idealize.ShloMosaic

namespace Cert.Calls

/-- An extended real that is a real number. -/
def Real? (x : EReal) : Prop := x ≠ ⊤ ∧ x ≠ ⊥

theorem Real?.coe {x : EReal} (h : Real? x) : ∃ r : ℝ, x = (r : EReal) := ⟨x.toReal, (EReal.coe_toReal h.1 h.2).symm⟩

theorem real?_coe (r : ℝ) : Real? (r : EReal) := ⟨EReal.coe_ne_top r, EReal.coe_ne_bot r⟩

theorem Real?.mul {x y : EReal} (hx : Real? x) (hy : Real? y) : Real? (x * y) := by
  obtain ⟨a, rfl⟩ := hx.coe
  obtain ⟨b, rfl⟩ := hy.coe
  exact (EReal.coe_mul a b) ▸ real?_coe (a * b)

theorem Real?.add {x y : EReal} (hx : Real? x) (hy : Real? y) : Real? (x + y) := by
  obtain ⟨a, rfl⟩ := hx.coe
  obtain ⟨b, rfl⟩ := hy.coe
  exact (EReal.coe_add a b) ▸ real?_coe (a + b)

/-- A sum of real numbers is a real number. -/
theorem Real?.sum {ι : Type} (s : Finset ι) (f : ι → EReal) (h : ∀ i, Real? (f i)) : Real? (∑ i ∈ s, f i) := by
  classical
  induction s using Finset.induction_on with
  | empty => rw [Finset.sum_empty]; exact real?_coe 0
  | insert a s ha ih => rw [Finset.sum_insert ha]; exact (h a).add ih

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

/-- The exponential of a real number is positive. -/
theorem exp_pos {x : EReal} (h : Real? x) : 0 < Ideal.exp x := by
  obtain ⟨r, rfl⟩ := h.coe
  exact EReal.coe_pos.mpr (Real.exp_pos r)

variable {ι κ : Type} [Fintype ι] [Fintype κ]

/-- The largest of the scores. -/
def top (s : ι → EReal) : EReal := Finset.univ.fold max ⊥ s

/-- The largest of the scores and the sink. -/
def peak (s : ι → EReal) (σ : EReal) : EReal := max (top s) σ

/-- The sum of the scores' exponentials, and the sink's. -/
def mass (s : ι → EReal) (σ : EReal) : EReal :=
  (∑ k, Ideal.exp (s k - peak s σ)) + Ideal.exp (σ - peak s σ)

/-- The values' mean under the softmax of the scores with the sink. -/
def attend (s : ι → EReal) (σ : EReal) (v : ι → EReal) : EReal :=
  ∑ k, v k * Ideal.div (Ideal.exp (s k - peak s σ)) (mass s σ)

/-- The same, each weight the exponential times the reciprocal of the sum. -/
def attendInv (s : ι → EReal) (σ : EReal) (v : ι → EReal) : EReal :=
  ∑ k, v k * (Ideal.exp (s k - peak s σ) * Ideal.div 1 (mass s σ))

/-- The two forms agree where the sum is not zero. -/
theorem attendInv_eq (s : ι → EReal) (σ : EReal) (v : ι → EReal) (h : mass s σ ≠ 0) : attendInv s σ v = attend s σ v := by
  unfold attendInv attend
  exact Finset.sum_congr rfl fun k _ => by rw [Ideal.mul_one_div h]

/-- The largest score is no infinity upwards when no score is. -/
theorem top_ne_top (s : ι → EReal) (hs : ∀ k, s k ≠ ⊤) : top s ≠ ⊤ := by
  refine ne_of_lt ?_
  unfold top
  rw [Finset.fold_max_lt]
  exact ⟨bot_lt_top, fun k _ => lt_top_iff_ne_top.mpr (hs k)⟩

/-- The sum is not zero when the sink is a real number and no score is infinite upwards. -/
theorem mass_ne_zero (s : ι → EReal) (σ : EReal) (hs : ∀ k, s k ≠ ⊤) (hσ : Real? σ) : mass s σ ≠ 0 := by
  have hp : Real? (peak s σ) :=
    ⟨ne_of_lt (max_lt (lt_top_iff_ne_top.mpr (top_ne_top s hs)) (lt_top_iff_ne_top.mpr hσ.1)),
      ne_of_gt (lt_of_lt_of_le (bot_lt_iff_ne_bot.mpr hσ.2) (le_max_right _ _))⟩
  have h : 0 < Ideal.exp (σ - peak s σ) := by
    refine exp_pos ?_
    obtain ⟨a, ha⟩ := hσ.coe
    obtain ⟨b, hb⟩ := hp.coe
    rw [hb, ha]
    exact (EReal.coe_sub a b) ▸ real?_coe (a - b)
  unfold mass
  exact ne_of_gt (lt_of_lt_of_le h (le_add_of_nonneg_left (Finset.sum_nonneg fun k _ => exp_nonneg _)))

section Band

variable (e : κ → ι) (he : Function.Injective e) (s : ι → EReal) (hs : ∀ i, i ∉ Set.range e → s i = ⊥)

include hs in
/-- The largest score is the largest of the band's, the others being masked. -/
theorem top_band : top s = top fun k => s (e k) := by
  refine le_antisymm ?_ ?_ <;> unfold top <;> rw [Finset.fold_max_le]
  · refine ⟨bot_le, fun i _ => ?_⟩
    by_cases h : i ∈ Set.range e
    · obtain ⟨k, rfl⟩ := h
      exact (Finset.le_fold_max _).mpr (Or.inr ⟨k, Finset.mem_univ _, le_refl _⟩)
    · rw [hs i h]; exact bot_le
  · exact ⟨bot_le, fun k _ => (Finset.le_fold_max _).mpr (Or.inr ⟨e k, Finset.mem_univ _, le_refl _⟩)⟩

include he in
/-- A sum whose terms outside the band are zero is the sum over the band. -/
theorem sum_band (f : ι → EReal) (hf : ∀ i, i ∉ Set.range e → f i = 0) : ∑ i, f i = ∑ k, f (e k) :=
  (Finset.sum_of_injOn e he.injOn (fun _ _ => Finset.mem_coe.mpr (Finset.mem_univ _))
    (fun i _ h => hf i fun hi => h (by simpa using hi)) fun _ _ => rfl).symm

/-- A masked score weighs nothing. -/
theorem exp_masked (x : EReal) : Ideal.exp (⊥ - x) = 0 := by
  rw [sub_eq_add_neg, EReal.bot_add]; rfl

include he hs in
/-- The sum of the exponentials is the band's. -/
theorem mass_band (σ : EReal) : mass s σ = mass (fun k => s (e k)) σ := by
  have hp : peak s σ = peak (fun k => s (e k)) σ := by unfold peak; rw [top_band e s hs]
  unfold mass
  rw [hp, sum_band e he _ fun i hi => by rw [hs i hi]; exact exp_masked _]

include he hs in
/-- The mean over all keys is the mean over the band, where the sum of the exponentials is not zero. -/
theorem attend_band (σ : EReal) (v : ι → EReal) (h : mass s σ ≠ 0) :
    attend s σ v = attend (fun k => s (e k)) σ fun k => v (e k) := by
  have hp : peak s σ = peak (fun k => s (e k)) σ := by unfold peak; rw [top_band e s hs]
  unfold attend
  rw [sum_band e he _ fun i hi => by rw [hs i hi, exp_masked, Ideal.zero_div h, mul_zero]]
  rw [mass_band e he s hs, hp]

end Band

end Cert.Calls

end
-- ==== Proof.Calls.SwaRef.lean ====
/- Attention over a band of keys with a sink: the reference at an index. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pipeline.ReadBack
public import Idealize.ShloMosaic.Lib.Pointwise
public import proofs.«01_k».proof.Proof.Calls.Band

@[expose] public section

set_option maxRecDepth 16384

noncomputable section

open Idealize.ShloMosaic Idealize.ShloMosaic.TcCoe Idealize.SL.Sem
open Idealize.ShloMosaic.Pipeline (Dat)

namespace Cert.Calls.Swa

open Cert.ReferenceIdeal Cert.ReferenceIdeal.Read

/-- Whether key `k` lies within the window of query `q`. -/
def near (q k : ℕ) : BitVec 1 := IntOp.cmpi .sle (IntOp.absi (IntOp.subi (BitVec.ofNat 32 q) (BitVec.ofNat 32 k))) 128#32

/-- A masked score: the row of the key times the row of the query, over the square root of the head's dimension. -/
def score (v : BitVec 1) (k q : Fin 128 → EReal) : EReal :=
  Scalar.select v ((∑ x, k x * q x) * (((Real.sqrt 128)⁻¹ : ℝ) : EReal)) ⊥

/-- The mask's word is minus infinity. -/
theorem ofBits_bot : Ideal.ofBits .f32 0xFF800000#32 = ⊥ := by simp [Ideal.ofBits, Ideal.ieee]

/-- Dividing by the square root of the head's dimension is multiplying by its reciprocal. -/
theorem div_sqrt (x : EReal) :
    Ideal.div x (Ideal.sqrt (Ideal.ofBits .f32 0x43000000#32)) = x * (((Real.sqrt 128)⁻¹ : ℝ) : EReal) := by
  have h : Ideal.ofBits .f32 0x43000000#32 = ((128 : ℝ) : EReal) := by
    simp [Ideal.ofBits, Ideal.ieee, -EReal.coe_mul]
    norm_num
  have hs : Ideal.sqrt ((128 : ℝ) : EReal) = ((Real.sqrt 128 : ℝ) : EReal) := by
    show (if (128 : ℝ) < 0 then (⊥ : EReal) else (Real.sqrt 128 : EReal)) = _
    rw [if_neg (by norm_num)]
  have h0 : ((Real.sqrt 128 : ℝ) : EReal) ≠ 0 := by
    have : (0 : ℝ) < Real.sqrt 128 := Real.sqrt_pos.mpr (by norm_num)
    exact_mod_cast this.ne'
  rw [h, hs]
  unfold Ideal.div
  rw [if_neg h0, ← EReal.coe_inv]

/-- The largest along the last axis of an array of five axes. -/
theorem reduceMax5 {n0 n1 n2 n3 n4 : ℕ} {u : Shape} (y : FVec Ideal (⟨5, ![n0, n1, n2, n3, n4]⟩ : Shape) .f32)
    (z : FVec Ideal u .f32) (h : (⟨5, ![n0, n1, n2, n3, n4]⟩ : Shape).ReducesTo [4] (⟨4, ![n0, n1, n2, n3]⟩ : Shape))
    (hu : 0 < u.numel) (b : Fin n0) (g : Fin n1) (r : Fin n2) (q : Fin n3) :
    Host.reduce FloatOps.maximumf y z h hu (ix4 b g r q)
      = Finset.univ.fold max (z (Shape.Idx.first hu)) (fun k : Fin n4 => y (ix5 b g r q k)) := by
  rw [Host.reduce_eq_fold, Shape.ReducesTo.fold_fiber_r5_a4]
  rfl

section

variable (x : (⟨S8192x9216, .bf16⟩ : BufTy).Contents (Elt Ideal)) (σ : (⟨S16, .f32⟩ : BufTy).Contents (Elt Ideal))

/-- The masked scores of the reference. -/
theorem scoreAt (b h g : Fin 4) (q k : Fin 2048) :
    val_main_v20 x (ix5 b h g q k) = score (near q.val k.val)
      (fun d => x (ix2 ⟨b.val * 2048 + k.val, by omega⟩ ⟨2048 + (h.val * 128 + d.val), by omega⟩))
      (fun d => x (ix2 ⟨b.val * 2048 + q.val, by omega⟩ ⟨h.val * 512 + g.val * 128 + d.val, by omega⟩)) := by
  unfold score near
  rw [← div_sqrt]
  pointwise [val_main_v0, val_main_v1, val_main_v2, val_main_v3, val_main_v4, val_main_v5, val_main_v8, val_main_v9, val_main_cst,
    val_main_v10, val_main_v11, val_main_v12, val_main_v13, val_main_v14, val_main_v15, val_main_v16, val_main_c, val_main_v17,
    val_main_v18, val_main_v19, val_main_cst_0, val_main_call0_v0, val_main_call0_v1, val_main_call0_v2, val_main_v20]
  rw [← ofBits_bot]
  rfl

/-- The sink of a head. -/
theorem sinkAt (h g : Fin 4) : val_main_v21 σ (ix2 h g) = σ (ix1 ⟨h.val * 4 + g.val, by omega⟩) := by
  pointwise [val_main_v21]

/-- The values of a head. -/
theorem valueAt (b h : Fin 4) (k : Fin 2048) (d : Fin 128) :
    val_main_v7 x (ix4 b k h d) = x (ix2 ⟨b.val * 2048 + k.val, by omega⟩ ⟨2560 + (h.val * 128 + d.val), by omega⟩) := by
  pointwise [val_main_v7, val_main_v6, val_main_v1, val_main_v0]

/-- The sink of a head, at every query. -/
theorem sinkRow (b h g : Fin 4) (q : Fin 2048) (z : Fin 1) : val_main_v25 σ (ix5 b h g q z) = val_main_v21 σ (ix2 h g) := by
  rw [val_main_v25_apply, val_main_v22_apply]
  refine congrArg _ ?_
  funext a
  match a with
  | ⟨0, _⟩ => rfl
  | ⟨1, _⟩ => rfl

/-- The largest of a query's scores. -/
theorem topRow (b h g : Fin 4) (q : Fin 2048) (z : Fin 1) :
    val_main_v24 x (ix5 b h g q z) = top (fun k : Fin 2048 => val_main_v20 x (ix5 b h g q k)) := by
  have e : val_main_v24 x (ix5 b h g q z) = val_main_v23 x (ix4 b h g q) := by
    rw [val_main_v24_apply]
    refine congrArg _ ?_
    funext a
    match a with
    | ⟨0, _⟩ => rfl
    | ⟨1, _⟩ => rfl
    | ⟨2, _⟩ => rfl
    | ⟨3, _⟩ => rfl
  rw [e]
  unfold top
  rw [← ofBits_bot]
  unfold val_main_v23 val_main_cst_1
  generalize val_main_v20 x = y
  exact reduceMax5 y _ _ _ b h g q

/-- The largest of a query's scores and the sink. -/
theorem peakAt (b h g : Fin 4) (q : Fin 2048) (z : Fin 1) :
    val_main_v26 x σ (ix5 b h g q z) = peak (fun k : Fin 2048 => val_main_v20 x (ix5 b h g q k)) (val_main_v21 σ (ix2 h g)) := by
  rw [val_main_v26_apply, topRow, sinkRow]
  unfold peak
  rw [Ideal.maximumf_eq_max]

/-- A key's exponential. -/
theorem expAt (b h g : Fin 4) (q k : Fin 2048) :
    val_main_v29 x σ (ix5 b h g q k) = Ideal.exp (val_main_v20 x (ix5 b h g q k) - val_main_v26 x σ (ix5 b h g q 0)) := by
  pointwise [val_main_v29, val_main_v28, val_main_v27]

/-- The sum of the exponentials. -/
theorem massAt (b h g : Fin 4) (q : Fin 2048) (z : Fin 1) :
    val_main_v35 x σ (ix5 b h g q z) = (∑ k : Fin 2048, val_main_v29 x σ (ix5 b h g q k))
      + Ideal.exp (val_main_v21 σ (ix2 h g) - val_main_v26 x σ (ix5 b h g q 0)) := by
  have hz : z = 0 := Fin.ext (by omega)
  subst hz
  pointwise [val_main_v35, val_main_v34, val_main_v33, val_main_v32, val_main_v22, val_main_v31, val_main_v30, val_main_cst_2]

/-- The result from the weights. -/
theorem outAt (b h g : Fin 4) (q : Fin 2048) (d : Fin 128) :
    val_main_v41 x σ (ix2 ⟨b.val * 2048 + q.val, by omega⟩ ⟨h.val * 512 + g.val * 128 + d.val, by omega⟩)
      = ∑ k : Fin 2048, val_main_v7 x (ix4 b k h d) * Ideal.div (val_main_v29 x σ (ix5 b h g q k)) (val_main_v35 x σ (ix5 b h g q 0)) := by
  pointwise [val_main_v41, val_main_v40, val_main_v39, val_main_v38, val_main_v37, val_main_v36]

/-- The reference at an index: the attention over all keys, those out of the window masked. -/
theorem reference (b h g : Fin 4) (q : Fin 2048) (d : Fin 128) :
    val_main_v41 x σ (ix2 ⟨b.val * 2048 + q.val, by omega⟩ ⟨h.val * 512 + g.val * 128 + d.val, by omega⟩)
      = attend (fun k : Fin 2048 => score (near q.val k.val)
            (fun d => x (ix2 ⟨b.val * 2048 + k.val, by omega⟩ ⟨2048 + (h.val * 128 + d.val), by omega⟩))
            (fun d => x (ix2 ⟨b.val * 2048 + q.val, by omega⟩ ⟨h.val * 512 + g.val * 128 + d.val, by omega⟩)))
          (σ (ix1 ⟨h.val * 4 + g.val, by omega⟩))
          (fun k => x (ix2 ⟨b.val * 2048 + k.val, by omega⟩ ⟨2560 + (h.val * 128 + d.val), by omega⟩)) := by
  rw [outAt, massAt]
  simp only [expAt, peakAt]
  unfold attend mass
  simp only [sinkAt, valueAt, scoreAt]

end

end Cert.Calls.Swa

end
-- ==== Proof.Calls.SwaPay.lean ====
/- Attention over a band of keys with a sink: the kernel's block of queries at an index. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Calls.SwaRef

@[expose] public section

set_option maxRecDepth 16384

noncomputable section

open Idealize.ShloMosaic Idealize.ShloMosaic.TcCoe Idealize.SL.Sem
open Idealize.ShloMosaic.Pipeline (Dat)

namespace Cert.Calls.Swa

open Cert.KernelIdeal Cert.KernelIdeal.Gen

/-- A block's mask: which of the keys loaded lie within the window of each query of block `n`. -/
def maskOf (n : BitVec 32) : IVec S384x128 1 :=
  cmpi .sle (absi (subi
    (addi (broadcast S384x128 (Scalar.muli n 128#32)) (iota .tc S384x128 32 [1] iota_S384x128_d1_w32))
    (addi (broadcast S384x128 (Scalar.minsi 1664#32 (Scalar.maxsi 0#32 (Scalar.muli (Scalar.subi n 1#32) 128#32))))
      (iota .tc S384x128 32 [0] iota_S384x128_d0_w32)))) (broadcast S384x128 128#32)

/-- A block's masked scores. -/
def scores (n : BitVec 32) (k : Vec Ideal S384x128 .bf16) (q0 q1 q2 q3 : Vec Ideal S128x128 .bf16) : FVec Ideal S384x512 .f32 :=
  k0_pay8 (maskOf n) (k0_pay6 k q0 q1 q2 q3) (k0_pay7 (F := Ideal))

/-- A block's result, heads side by side, transposed. -/
def blockOut (n : BitVec 32) (k v : Vec Ideal S384x128 .bf16) (σ : Vec Ideal S1x1x512 .f32) (q0 q1 q2 q3 : Vec Ideal S128x128 .bf16) :
    FVec Ideal S128x512 .f32 :=
  k0_pay26 (k0_pay3 σ) (k0_pay4 v) (scores n k q0 q1 q2 q3) (k0_pay17 (k0_pay3 σ) (scores n k q0 q1 q2 q3))

/-- The first key block `n` loads. -/
def start (n : ℕ) : ℕ := min 1664 ((n - 1) * 128)

/-- The attention of a block at an index, from its scores. -/
theorem payOut (σ : FVec Ideal S1x512 .f32) (v : FVec Ideal S128x384 .bf16) (s : FVec Ideal S384x512 .f32) (d : Fin 128) (c : Fin 512) :
    k0_pay26 σ v s (k0_pay17 σ s) (ix2 d c)
      = attendInv (fun j : Fin 384 => s (ix2 j c)) (σ (ix2 0 c)) (fun j => v (ix2 d j)) := by
  unfold attendInv mass peak top
  rw [← ofBits_bot]
  pointwise [k0_pay26, k0_pay17]

/-- The sinks' row at an index. -/
theorem sinkIn (σ : Vec Ideal S1x1x512 .f32) (c : Fin 512) : k0_pay3 σ (ix2 0 c) = σ (ix3 0 0 c) := by
  pointwise [k0_pay3]

/-- The values' block at an index. -/
theorem valueIn (v : Vec Ideal S384x128 .bf16) (d : Fin 128) (j : Fin 384) : k0_pay4 v (ix2 d j) = v (ix2 j d) := by
  pointwise [k0_pay4]

/-- The first key loaded, as a word. -/
theorem startWord (n : ℕ) (hn : n < 16) :
    Scalar.minsi 1664#32 (Scalar.maxsi 0#32 (Scalar.muli (Scalar.subi (BitVec.ofNat 32 n) 1#32) 128#32)) = BitVec.ofNat 32 (start n) := by
  interval_cases n <;> decide

/-- The mask is the window's test on the positions of query and key. -/
theorem maskAt (n : ℕ) (hn : n < 16) (j : Fin 384) (r : Fin 128) :
    maskOf (BitVec.ofNat 32 n) (ix2 j r) = near (n * 128 + r.val) (start n + j.val) := by
  have hm : Scalar.muli (BitVec.ofNat 32 n) 128#32 = BitVec.ofNat 32 (n * 128) := by
    interval_cases n <;> decide
  pointwise [maskOf]
  rw [startWord n hn, hm]
  unfold near
  rw [BitVec.ofNat_add, BitVec.ofNat_add]
  rfl

theorem scaleVal : Named.named (F := Ideal) κ "scale" (φ := .f32) 0x3DB504F3#32 = (((Real.sqrt 128)⁻¹ : ℝ) : EReal) :=
  IdealRules.named_const.ideal_named_scalar _ _ _ _ rfl

theorem maskVal : Named.named (F := Ideal) κ "mask" (φ := .f32) 0xF149F2CA#32 = (⊥ : EReal) :=
  IdealRules.named_const.ideal_named_scalar _ _ _ _ rfl

/-- The masked score of key `j` and query `r` of head 0 of the group. -/
theorem scores0 (n : BitVec 32) (k : Vec Ideal S384x128 .bf16) (q0 q1 q2 q3 : Vec Ideal S128x128 .bf16) (j : Fin 384) (r : Fin 128) :
    scores n k q0 q1 q2 q3 (ix2 j ⟨0 + r.val, by omega⟩)
      = score (maskOf n (ix2 j r)) (fun x => k (ix2 j x)) (fun x => q0 (ix2 r x)) := by
  have hr : r.val < 128 := r.isLt
  pointwise [scores, k0_pay8, k0_pay6, k0_pay7, score, hr]
  simp only [scaleVal, maskVal]

/-- The masked score of key `j` and query `r` of head 1 of the group. -/
theorem scores1 (n : BitVec 32) (k : Vec Ideal S384x128 .bf16) (q0 q1 q2 q3 : Vec Ideal S128x128 .bf16) (j : Fin 384) (r : Fin 128) :
    scores n k q0 q1 q2 q3 (ix2 j ⟨128 + r.val, by omega⟩)
      = score (maskOf n (ix2 j r)) (fun x => k (ix2 j x)) (fun x => q1 (ix2 r x)) := by
  have h0 : ¬ 128 + r.val < 128 := by omega
  have e1 : 128 + r.val - 128 = r.val := by omega
  have u1 : 128 + r.val - 128 = r.val := by omega
  have hr : r.val < 128 := r.isLt
  pointwise [scores, k0_pay8, k0_pay6, k0_pay7, score, h0, e1, u1, hr]
  simp only [scaleVal, maskVal]

/-- The masked score of key `j` and query `r` of head 2 of the group. -/
theorem scores2 (n : BitVec 32) (k : Vec Ideal S384x128 .bf16) (q0 q1 q2 q3 : Vec Ideal S128x128 .bf16) (j : Fin 384) (r : Fin 128) :
    scores n k q0 q1 q2 q3 (ix2 j ⟨256 + r.val, by omega⟩)
      = score (maskOf n (ix2 j r)) (fun x => k (ix2 j x)) (fun x => q2 (ix2 r x)) := by
  have h0 : ¬ 256 + r.val < 128 := by omega
  have h1 : ¬ 256 + r.val - 128 < 128 := by omega
  have e1 : 256 + r.val - 128 = 128 + r.val := by omega
  have f1 : ¬ 128 + r.val < 128 := by omega
  have e2 : 256 + r.val - 128 - 128 = r.val := by omega
  have u2 : 128 + r.val - 128 = r.val := by omega
  have hr : r.val < 128 := r.isLt
  pointwise [scores, k0_pay8, k0_pay6, k0_pay7, score, h0, h1, e1, f1, e2, u2, hr]
  simp only [scaleVal, maskVal]

/-- The masked score of key `j` and query `r` of head 3 of the group. -/
theorem scores3 (n : BitVec 32) (k : Vec Ideal S384x128 .bf16) (q0 q1 q2 q3 : Vec Ideal S128x128 .bf16) (j : Fin 384) (r : Fin 128) :
    scores n k q0 q1 q2 q3 (ix2 j ⟨384 + r.val, by omega⟩)
      = score (maskOf n (ix2 j r)) (fun x => k (ix2 j x)) (fun x => q3 (ix2 r x)) := by
  have h0 : ¬ 384 + r.val < 128 := by omega
  have h1 : ¬ 384 + r.val - 128 < 128 := by omega
  have h2 : ¬ 384 + r.val - 128 - 128 < 128 := by omega
  have e1 : 384 + r.val - 128 = 256 + r.val := by omega
  have f1 : ¬ 256 + r.val < 128 := by omega
  have e2 : 384 + r.val - 128 - 128 = 128 + r.val := by omega
  have f2 : ¬ 128 + r.val < 128 := by omega
  have e3 : 384 + r.val - 128 - 128 - 128 = r.val := by omega
  have u3 : 128 + r.val - 128 = r.val := by omega
  have hr : r.val < 128 := r.isLt
  have w3 : 256 + r.val - 128 = 128 + r.val := by omega
  pointwise [scores, k0_pay8, k0_pay6, k0_pay7, score, h0, h1, h2, e1, f1, e2, f2, e3, u3, hr, w3]
  simp only [scaleVal, maskVal]

/-- Head 0's tile of a block's result, at query `r` and column `d`. -/
theorem tile0 (n : BitVec 32) (k v : Vec Ideal S384x128 .bf16) (σ : Vec Ideal S1x1x512 .f32) (q0 q1 q2 q3 : Vec Ideal S128x128 .bf16)
    (r d : Fin 128) :
    k0_pay31 (blockOut n k v σ q0 q1 q2 q3) (ix2 r d)
      = attendInv (fun j : Fin 384 => score (maskOf n (ix2 j r)) (fun x => k (ix2 j x)) (fun x => q0 (ix2 r x)))
          (σ (ix3 0 0 ⟨0 + r.val, by omega⟩)) (fun j => v (ix2 j d)) := by
  have e : k0_pay31 (blockOut n k v σ q0 q1 q2 q3) (ix2 r d)
      = blockOut n k v σ q0 q1 q2 q3 (ix2 d ⟨0 + r.val, by omega⟩) := by
    pointwise [k0_pay31]
  rw [e]
  unfold blockOut
  rw [payOut]
  simp only [scores0, sinkIn, valueIn]

/-- Head 1's tile of a block's result, at query `r` and column `d`. -/
theorem tile1 (n : BitVec 32) (k v : Vec Ideal S384x128 .bf16) (σ : Vec Ideal S1x1x512 .f32) (q0 q1 q2 q3 : Vec Ideal S128x128 .bf16)
    (r d : Fin 128) :
    k0_pay32 (blockOut n k v σ q0 q1 q2 q3) (ix2 r d)
      = attendInv (fun j : Fin 384 => score (maskOf n (ix2 j r)) (fun x => k (ix2 j x)) (fun x => q1 (ix2 r x)))
          (σ (ix3 0 0 ⟨128 + r.val, by omega⟩)) (fun j => v (ix2 j d)) := by
  have e : k0_pay32 (blockOut n k v σ q0 q1 q2 q3) (ix2 r d)
      = blockOut n k v σ q0 q1 q2 q3 (ix2 d ⟨128 + r.val, by omega⟩) := by
    pointwise [k0_pay32]
  rw [e]
  unfold blockOut
  rw [payOut]
  simp only [scores1, sinkIn, valueIn]

/-- Head 2's tile of a block's result, at query `r` and column `d`. -/
theorem tile2 (n : BitVec 32) (k v : Vec Ideal S384x128 .bf16) (σ : Vec Ideal S1x1x512 .f32) (q0 q1 q2 q3 : Vec Ideal S128x128 .bf16)
    (r d : Fin 128) :
    k0_pay33 (blockOut n k v σ q0 q1 q2 q3) (ix2 r d)
      = attendInv (fun j : Fin 384 => score (maskOf n (ix2 j r)) (fun x => k (ix2 j x)) (fun x => q2 (ix2 r x)))
          (σ (ix3 0 0 ⟨256 + r.val, by omega⟩)) (fun j => v (ix2 j d)) := by
  have e : k0_pay33 (blockOut n k v σ q0 q1 q2 q3) (ix2 r d)
      = blockOut n k v σ q0 q1 q2 q3 (ix2 d ⟨256 + r.val, by omega⟩) := by
    pointwise [k0_pay33]
  rw [e]
  unfold blockOut
  rw [payOut]
  simp only [scores2, sinkIn, valueIn]

/-- Head 3's tile of a block's result, at query `r` and column `d`. -/
theorem tile3 (n : BitVec 32) (k v : Vec Ideal S384x128 .bf16) (σ : Vec Ideal S1x1x512 .f32) (q0 q1 q2 q3 : Vec Ideal S128x128 .bf16)
    (r d : Fin 128) :
    k0_pay34 (blockOut n k v σ q0 q1 q2 q3) (ix2 r d)
      = attendInv (fun j : Fin 384 => score (maskOf n (ix2 j r)) (fun x => k (ix2 j x)) (fun x => q3 (ix2 r x)))
          (σ (ix3 0 0 ⟨384 + r.val, by omega⟩)) (fun j => v (ix2 j d)) := by
  have e : k0_pay34 (blockOut n k v σ q0 q1 q2 q3) (ix2 r d)
      = blockOut n k v σ q0 q1 q2 q3 (ix2 d ⟨384 + r.val, by omega⟩) := by
    pointwise [k0_pay34]
  rw [e]
  unfold blockOut
  rw [payOut]
  simp only [scores3, sinkIn, valueIn]

/-! The kernel's four blocks are one computation, printed four times. -/

/-- The number of block `b` of the point's four. -/
abbrev blockNo (a b : BitVec 32) : BitVec 32 := Scalar.addi (Scalar.muli a 4#32) b

theorem scoresA (i : grid0.Coords) (v k : Vec Ideal S384x128 .bf16) (σ : Vec Ideal S1x1x512 .f32) (q0 q1 q2 q3 : Vec Ideal S128x128 .bf16) :
    k0_pay8 (k0_pay5 i) (k0_pay6 k q0 q1 q2 q3) (k0_pay7 (F := Ideal)) = scores (blockNo (BitVec.ofNat 32 (i 2).val) 0#32) k q0 q1 q2 q3 := rfl

theorem scoresB (a : BitVec 32) (v k : Vec Ideal S384x128 .bf16) (σ : Vec Ideal S1x1x512 .f32) (q0 q1 q2 q3 : Vec Ideal S128x128 .bf16) :
    k0_pay12 (k0_pay10 k q0 q1 q2 q3) (k0_pay11 a) (Named.named (F := Ideal) κ "mask" 0xF149F2CA#32) = scores (blockNo a 1#32) k q0 q1 q2 q3 := rfl

theorem scoresC (a : BitVec 32) (v k : Vec Ideal S384x128 .bf16) (σ : Vec Ideal S1x1x512 .f32) (q0 q1 q2 q3 : Vec Ideal S128x128 .bf16) : k0_pay14 a k q0 q1 q2 q3 = scores (blockNo a 2#32) k q0 q1 q2 q3 := rfl

theorem scoresD (a : BitVec 32) (v k : Vec Ideal S384x128 .bf16) (σ : Vec Ideal S1x1x512 .f32) (q0 q1 q2 q3 : Vec Ideal S128x128 .bf16) : k0_pay16 a 4#32 k q0 q1 q2 q3 = scores (blockNo a 3#32) k q0 q1 q2 q3 := rfl

theorem outA (n : BitVec 32) (v k : Vec Ideal S384x128 .bf16) (σ : Vec Ideal S1x1x512 .f32) (q0 q1 q2 q3 : Vec Ideal S128x128 .bf16) :
    k0_pay26 (k0_pay3 σ) (k0_pay4 v) (scores n k q0 q1 q2 q3) (k0_pay17 (k0_pay3 σ) (scores n k q0 q1 q2 q3)) = blockOut n k v σ q0 q1 q2 q3 := rfl

theorem outB (n : BitVec 32) (v k : Vec Ideal S384x128 .bf16) (σ : Vec Ideal S1x1x512 .f32) (q0 q1 q2 q3 : Vec Ideal S128x128 .bf16) :
    k0_pay28 (k0_pay9 v) (k0_pay21 (k0_pay3 σ) (scores n k q0 q1 q2 q3)) (k0_pay27 (k0_pay3 σ) (scores n k q0 q1 q2 q3)) = blockOut n k v σ q0 q1 q2 q3 := rfl

theorem outC (n : BitVec 32) (v k : Vec Ideal S384x128 .bf16) (σ : Vec Ideal S1x1x512 .f32) (q0 q1 q2 q3 : Vec Ideal S128x128 .bf16) :
    k0_pay29 (k0_pay13 v) (k0_pay22 (k0_pay3 σ) (scores n k q0 q1 q2 q3)) (k0_pay24 (k0_pay3 σ) (scores n k q0 q1 q2 q3)) = blockOut n k v σ q0 q1 q2 q3 := rfl

theorem outD (n : BitVec 32) (v k : Vec Ideal S384x128 .bf16) (σ : Vec Ideal S1x1x512 .f32) (q0 q1 q2 q3 : Vec Ideal S128x128 .bf16) :
    k0_pay30 (k0_pay15 v) (k0_pay23 (k0_pay3 σ) (scores n k q0 q1 q2 q3)) (k0_pay25 (k0_pay3 σ) (scores n k q0 q1 q2 q3)) = blockOut n k v σ q0 q1 q2 q3 := rfl

theorem tileB0 (v : FVec Ideal S128x384 .bf16) (p q : FVec Ideal S384x512 .f32) : k0_pay35 v p q = k0_pay31 (k0_pay28 v p q) := rfl
theorem tileB1 (v : FVec Ideal S128x384 .bf16) (p q : FVec Ideal S384x512 .f32) : k0_pay36 v p q = k0_pay32 (k0_pay28 v p q) := rfl
theorem tileB2 (o : FVec Ideal S128x512 .f32) : k0_pay37 o = k0_pay33 o := rfl
theorem tileB3 (o : FVec Ideal S128x512 .f32) : k0_pay38 o = k0_pay34 o := rfl
theorem tileC0 (o : FVec Ideal S128x512 .f32) : k0_pay39 o = k0_pay31 o := rfl
theorem tileC1 (o : FVec Ideal S128x512 .f32) : k0_pay40 o = k0_pay32 o := rfl
theorem tileC2 (o : FVec Ideal S128x512 .f32) : k0_pay41 o = k0_pay33 o := rfl
theorem tileC3 (o : FVec Ideal S128x512 .f32) : k0_pay42 o = k0_pay34 o := rfl
theorem tileD0 (o : FVec Ideal S128x512 .f32) : k0_pay43 o = k0_pay31 o := rfl
theorem tileD1 (o : FVec Ideal S128x512 .f32) : k0_pay44 o = k0_pay32 o := rfl
theorem tileD2 (o : FVec Ideal S128x512 .f32) : k0_pay1 (k0_pay45 o) = k0_pay33 o := rfl
theorem tileD3 (o : FVec Ideal S128x512 .f32) : k0_pay2 o = k0_pay34 o := rfl

end Cert.Calls.Swa

end
-- ==== Proof.Calls.SwaCore.lean ====
/- Attention over a band of keys: the keys a block loads hold every key in the window of its queries. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Calls.SwaPay

@[expose] public section

set_option maxRecDepth 16384

noncomputable section

open Idealize.ShloMosaic Idealize.ShloMosaic.TcCoe Idealize.SL.Sem
open Idealize.ShloMosaic.Pipeline (Dat)

namespace Cert.Calls.Swa

open Cert.ReferenceIdeal

/-- The difference of two positions, as an integer. -/
theorem diffInt (q k : ℕ) (hq : q < 2048) (hk : k < 2048) :
    (BitVec.ofNat 32 q - BitVec.ofNat 32 k).toInt = (q : ℤ) - (k : ℤ) := by
  rw [BitVec.toInt_sub, BitVec.toInt_ofNat', BitVec.toInt_ofNat']
  simp only [Int.bmod]
  omega

/-- A key more than the window away from a query is masked. -/
theorem near_far (q k : ℕ) (hq : q < 2048) (hk : k < 2048) (h : k + 128 < q ∨ q + 128 < k) : near q k = 0#1 := by
  have e := diffInt q k hq hk
  have hs : ∀ x : BitVec 32, 128 < x.toInt → IntOp.cmpi .sle x 128#32 = 0#1 := by
    intro x hx
    have : x.sle 128#32 = false := by
      rw [BitVec.sle_eq_decide]
      have h8 : (128#32 : BitVec 32).toInt = 128 := by decide
      rw [h8]
      exact decide_eq_false (by omega)
    show BitVec.ofBool (x.sle 128#32) = 0#1
    rw [this]
    rfl
  apply hs
  show 128 < (IntOp.absi (BitVec.ofNat 32 q - BitVec.ofNat 32 k)).toInt
  unfold IntOp.absi
  rw [BitVec.msb_eq_toInt, e]
  rcases h with h | h
  · rw [if_neg (by simp only [decide_eq_true_eq]; omega), e]
    omega
  · rw [if_pos (by simp only [decide_eq_true_eq]; omega), BitVec.toInt_neg, e]
    simp only [Int.bmod]
    omega

theorem start_le (n : ℕ) : start n ≤ 1664 := by unfold start; omega

/-- The score of a masked key. -/
theorem score_zero (k q : Fin 128 → EReal) : score 0#1 k q = ⊥ := rfl

/-- A score of real entries is not the top. -/
theorem score_ne_top (v : BitVec 1) (k q : Fin 128 → EReal) (hk : ∀ x, Real? (k x)) (hq : ∀ x, Real? (q x)) : score v k q ≠ ⊤ := by
  unfold score Scalar.select
  split
  · exact ((Real?.sum _ _ fun x => (hk x).mul (hq x)).mul (real?_coe _)).1
  · exact bot_ne_top

/-- The attention over the keys a block loads is the reference's over all keys. -/
theorem core (X : (⟨S8192x9216, .bf16⟩ : BufTy).Contents (Elt Ideal)) (σ : (⟨S16, .f32⟩ : BufTy).Contents (Elt Ideal))
    (hX : ∀ i, Real? (X i)) (hσ : ∀ i, Real? (σ i)) (b h g : Fin 4) (n : Fin 16) (r d : Fin 128) :
    attendInv (fun j : Fin 384 => score (near (n.val * 128 + r.val) (start n.val + j.val))
        (fun x => X (ix2 ⟨b.val * 2048 + (start n.val + j.val), by have := start_le n.val; omega⟩ ⟨2048 + (h.val * 128 + x.val), by omega⟩))
        (fun x => X (ix2 ⟨b.val * 2048 + (n.val * 128 + r.val), by omega⟩ ⟨h.val * 512 + g.val * 128 + x.val, by omega⟩)))
      (σ (ix1 ⟨h.val * 4 + g.val, by omega⟩))
      (fun j => X (ix2 ⟨b.val * 2048 + (start n.val + j.val), by have := start_le n.val; omega⟩ ⟨2560 + (h.val * 128 + d.val), by omega⟩))
    = Cert.ReferenceIdeal.Read.val_main_v41 X σ (ix2 ⟨b.val * 2048 + (n.val * 128 + r.val), by omega⟩ ⟨h.val * 512 + g.val * 128 + d.val, by omega⟩) := by
  rw [attendInv_eq]
  · have hr := reference X σ b h g ⟨n.val * 128 + r.val, by omega⟩ d
    rw [hr]
    rw [attend_band (fun j : Fin 384 => (⟨start n.val + j.val, by have := start_le n.val; omega⟩ : Fin 2048))]
    · intro i j e
      have := congrArg Fin.val e
      apply Fin.ext
      simp only at this
      omega
    · intro k hk
      have hn : near (n.val * 128 + r.val) k.val = 0#1 := by
        apply near_far _ _ (by omega) k.isLt
        by_contra hc
        apply hk
        have h1 : start n.val ≤ k.val := by unfold start; omega
        have h2 : k.val - start n.val < 384 := by unfold start; omega
        exact ⟨⟨k.val - start n.val, h2⟩, Fin.ext (by show start n.val + (k.val - start n.val) = k.val; omega)⟩
      show score (near (n.val * 128 + r.val) k.val) _ _ = ⊥
      rw [hn, score_zero]
    · apply mass_ne_zero
      · intro k
        exact score_ne_top _ _ _ (fun x => hX _) (fun x => hX _)
      · exact hσ _
  · apply mass_ne_zero
    · intro k
      exact score_ne_top _ _ _ (fun x => hX _) (fun x => hX _)
    · exact hσ _

end Cert.Calls.Swa

end
-- ==== Proof.Calls.Swa.lean ====
/- Attention over a band of keys with a sink: the result array. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.Calls.SwaCore

@[expose] public section

set_option maxRecDepth 16384

noncomputable section

open Idealize.ShloMosaic Idealize.ShloMosaic.TcCoe Idealize.SL.Sem
open Idealize.ShloMosaic.Pipeline (Dat)

namespace Cert.Calls.Swa

open Cert.KernelIdeal Cert.KernelIdeal.Gen

variable (m : (ℓ : Loc nD τ sig) → Buf (Elt Ideal) ℓ)

/-- Each window's block index at each grid point. -/
theorem idx : ∀ t : Fin cfg0.N, win0_0.index t = ![(t.val / 16) * 4 + (t.val % 4), t.val / 4 % 4]
    ∧ win0_1.index t = ![t.val / 16, 16 + (t.val / 4 % 4)]
    ∧ win0_2.index t = ![t.val / 16, 20 + (t.val / 4 % 4)]
    ∧ win0_3.index t = ![t.val / 4 % 4, 0, 0]
    ∧ win0_4.index t = ![(t.val / 16) * 4 + (t.val % 4), t.val / 4 % 4] :=
  (by decide +kernel : ∀ t : Fin grid0.N, _)

/-- The block numbers of a grid point, as words. -/
theorem words : ∀ t : Fin cfg0.N,
    blockNo (BitVec.ofNat 32 (grid0.coords t 2).val) 0#32 = BitVec.ofNat 32 (t.val % 4 * 4 + (0 : Fin 4).val)
    ∧ blockNo (BitVec.ofNat 32 (grid0.coords t 2).val) 1#32 = BitVec.ofNat 32 (t.val % 4 * 4 + (1 : Fin 4).val)
    ∧ blockNo (BitVec.ofNat 32 (grid0.coords t 2).val) 2#32 = BitVec.ofNat 32 (t.val % 4 * 4 + (2 : Fin 4).val)
    ∧ blockNo (BitVec.ofNat 32 (grid0.coords t 2).val) 3#32 = BitVec.ofNat 32 (t.val % 4 * 4 + (3 : Fin 4).val) :=
  (by decide +kernel : ∀ t : Fin grid0.N, _)

/-- Where each block of a grid point loads its keys from. -/
theorem offs : ∀ t : Fin cfg0.N, k0_off1 (grid0.coords t) 0#32 = ![start (t.val % 4 * 4 + 0), 0]
    ∧ k0_off1 (grid0.coords t) 1#32 = ![start (t.val % 4 * 4 + 1), 0]
    ∧ k0_off1 (grid0.coords t) 2#32 = ![start (t.val % 4 * 4 + 2), 0]
    ∧ k0_off1 (grid0.coords t) 3#32 = ![start (t.val % 4 * 4 + 3), 0] :=
  (by decide +kernel : ∀ t : Fin grid0.N, _)

/-- The projections and the sinks, as functions of the index. -/
abbrev at0 (c : Dev nD) : (⟨S8192x9216, .bf16⟩ : BufTy).Contents (Elt Ideal) := m ((c : Thread nD τ).loc main_arg0)
abbrev sinks (c : Dev nD) : (⟨S16, .f32⟩ : BufTy).Contents (Elt Ideal) := m ((c : Thread nD τ).loc main_arg1)

/-- A key a block loads. -/
abbrev keyAt (c : Dev nD) (t : Fin cfg0.N) (blk : Fin 4) (j : Fin 384) (x : Fin 128) : EReal :=
  at0 m c (ix2 ⟨t.val / 16 * 2048 + (start (t.val % 4 * 4 + blk.val) + j.val), by
    have ht : t.val < 64 := t.isLt
    have := start_le (t.val % 4 * 4 + blk.val); omega⟩ ⟨2048 + (t.val / 4 % 4 * 128 + x.val), by omega⟩)

/-- A value a block loads. -/
abbrev valueAt' (c : Dev nD) (t : Fin cfg0.N) (blk : Fin 4) (j : Fin 384) (x : Fin 128) : EReal :=
  at0 m c (ix2 ⟨t.val / 16 * 2048 + (start (t.val % 4 * 4 + blk.val) + j.val), by
    have ht : t.val < 64 := t.isLt
    have := start_le (t.val % 4 * 4 + blk.val); omega⟩ ⟨2560 + (t.val / 4 % 4 * 128 + x.val), by omega⟩)

/-- A query of a block and a head. -/
abbrev queryAt (c : Dev nD) (t : Fin cfg0.N) (blk g : Fin 4) (r x : Fin 128) : EReal :=
  at0 m c (ix2 ⟨t.val / 16 * 2048 + ((t.val % 4 * 4 + blk.val) * 128 + r.val), by
    have ht : t.val < 64 := t.isLt
    omega⟩ ⟨t.val / 4 % 4 * 512 + g.val * 128 + x.val, by omega⟩)

/-- The sinks' row at an index. -/
theorem read3 (c : Dev nD) (t : Fin cfg0.N) (b : Fin 512) :
    iblk m c 3 t (ix3 0 0 b) = sinks m c (ix1 ⟨t.val / 4 % 4 * 4 + (⟨b.val / 128, by omega⟩ : Fin 4).val, by show t.val / 4 % 4 * 4 + b.val / 128 < 16; omega⟩) := by
  blk_simp [iblk, idx t]
  entry_read
  pointwise
  blk_ext [idx t]

/-- The tile of head 0 of a group, for a block of queries, is the reference's. -/
theorem point0 (c : Dev nD) (hX : ∀ i, Real? (at0 m c i)) (hσ : ∀ i, Real? (sinks m c i)) (t : Fin cfg0.N) (blk : Fin 4)
    (w : BitVec 32) (hw : w = BitVec.ofNat 32 (t.val % 4 * 4 + blk.val)) {K V : Vec Ideal S384x128 .bf16}
    {Q0 Q1 Q2 Q3 : Vec Ideal S128x128 .bf16} (y : S512x512.Idx) (x : S128x128.Idx)
    (h0 : (y 0).val = blk.val * 128 + (x 0).val) (h1 : (y 1).val = 0 + (x 1).val)
    (hK : ∀ j x, K (ix2 j x) = keyAt m c t blk j x) (hV : ∀ j x, V (ix2 j x) = valueAt' m c t blk j x)
    (hQ : ∀ r x, Q0 (ix2 r x) = queryAt m c t blk 0 r x) :
    k0_pay31 (blockOut w K V (iblk m c 3 t) Q0 Q1 Q2 Q3) x
      = Cert.ReferenceIdeal.Read.val_main_v41 (m ((c : Thread nD τ).loc main_arg0)) (m ((c : Thread nD τ).loc main_arg1)) (((cfg0.win 4).blk t).view.emb y) := by
  obtain ⟨r, d, rfl⟩ : ∃ r d, x = ix2 r d := ⟨x 0, x 1, by blk_ext []⟩
  have ht : t.val < 64 := t.isLt
  have e : ((cfg0.win 4).blk t).view.emb y
      = ix2 ⟨t.val / 16 * 2048 + ((t.val % 4 * 4 + blk.val) * 128 + r.val), by omega⟩ ⟨t.val / 4 % 4 * 512 + 0 * 128 + d.val, by omega⟩ := by
    have h0' : (y 0).val = blk.val * 128 + r.val := h0
    have h1' : (y 1).val = 0 + d.val := h1
    blk_ext [idx t]
  have hc := core (at0 m c) (sinks m c) hX hσ ⟨t.val / 16, by omega⟩ ⟨t.val / 4 % 4, by omega⟩ 0 ⟨t.val % 4 * 4 + blk.val, by omega⟩ r d
  rw [e]
  refine Eq.trans ?_ hc
  have eσ : iblk m c 3 t (ix3 0 0 ⟨0 + r.val, by omega⟩) = sinks m c (ix1 ⟨t.val / 4 % 4 * 4 + (0 : Fin 4).val, by omega⟩) :=
    (read3 m c t ⟨0 + r.val, by omega⟩).trans (congrArg (sinks m c) (congrArg ix1 (Fin.ext (by
      show t.val / 4 % 4 * 4 + (0 + r.val) / 128 = t.val / 4 % 4 * 4 + 0
      omega))))
  rw [tile0, hw, eσ]
  simp only [maskAt _ (show t.val % 4 * 4 + blk.val < 16 by omega), hK, hV, hQ]

/-- The tile of head 1 of a group, for a block of queries, is the reference's. -/
theorem point1 (c : Dev nD) (hX : ∀ i, Real? (at0 m c i)) (hσ : ∀ i, Real? (sinks m c i)) (t : Fin cfg0.N) (blk : Fin 4)
    (w : BitVec 32) (hw : w = BitVec.ofNat 32 (t.val % 4 * 4 + blk.val)) {K V : Vec Ideal S384x128 .bf16}
    {Q0 Q1 Q2 Q3 : Vec Ideal S128x128 .bf16} (y : S512x512.Idx) (x : S128x128.Idx)
    (h0 : (y 0).val = blk.val * 128 + (x 0).val) (h1 : (y 1).val = 128 + (x 1).val)
    (hK : ∀ j x, K (ix2 j x) = keyAt m c t blk j x) (hV : ∀ j x, V (ix2 j x) = valueAt' m c t blk j x)
    (hQ : ∀ r x, Q1 (ix2 r x) = queryAt m c t blk 1 r x) :
    k0_pay32 (blockOut w K V (iblk m c 3 t) Q0 Q1 Q2 Q3) x
      = Cert.ReferenceIdeal.Read.val_main_v41 (m ((c : Thread nD τ).loc main_arg0)) (m ((c : Thread nD τ).loc main_arg1)) (((cfg0.win 4).blk t).view.emb y) := by
  obtain ⟨r, d, rfl⟩ : ∃ r d, x = ix2 r d := ⟨x 0, x 1, by blk_ext []⟩
  have ht : t.val < 64 := t.isLt
  have e : ((cfg0.win 4).blk t).view.emb y
      = ix2 ⟨t.val / 16 * 2048 + ((t.val % 4 * 4 + blk.val) * 128 + r.val), by omega⟩ ⟨t.val / 4 % 4 * 512 + 1 * 128 + d.val, by omega⟩ := by
    have h0' : (y 0).val = blk.val * 128 + r.val := h0
    have h1' : (y 1).val = 128 + d.val := h1
    blk_ext [idx t]
  have hc := core (at0 m c) (sinks m c) hX hσ ⟨t.val / 16, by omega⟩ ⟨t.val / 4 % 4, by omega⟩ 1 ⟨t.val % 4 * 4 + blk.val, by omega⟩ r d
  rw [e]
  refine Eq.trans ?_ hc
  have eσ : iblk m c 3 t (ix3 0 0 ⟨128 + r.val, by omega⟩) = sinks m c (ix1 ⟨t.val / 4 % 4 * 4 + (1 : Fin 4).val, by omega⟩) :=
    (read3 m c t ⟨128 + r.val, by omega⟩).trans (congrArg (sinks m c) (congrArg ix1 (Fin.ext (by
      show t.val / 4 % 4 * 4 + (128 + r.val) / 128 = t.val / 4 % 4 * 4 + 1
      omega))))
  rw [tile1, hw, eσ]
  simp only [maskAt _ (show t.val % 4 * 4 + blk.val < 16 by omega), hK, hV, hQ]

/-- The tile of head 2 of a group, for a block of queries, is the reference's. -/
theorem point2 (c : Dev nD) (hX : ∀ i, Real? (at0 m c i)) (hσ : ∀ i, Real? (sinks m c i)) (t : Fin cfg0.N) (blk : Fin 4)
    (w : BitVec 32) (hw : w = BitVec.ofNat 32 (t.val % 4 * 4 + blk.val)) {K V : Vec Ideal S384x128 .bf16}
    {Q0 Q1 Q2 Q3 : Vec Ideal S128x128 .bf16} (y : S512x512.Idx) (x : S128x128.Idx)
    (h0 : (y 0).val = blk.val * 128 + (x 0).val) (h1 : (y 1).val = 256 + (x 1).val)
    (hK : ∀ j x, K (ix2 j x) = keyAt m c t blk j x) (hV : ∀ j x, V (ix2 j x) = valueAt' m c t blk j x)
    (hQ : ∀ r x, Q2 (ix2 r x) = queryAt m c t blk 2 r x) :
    k0_pay33 (blockOut w K V (iblk m c 3 t) Q0 Q1 Q2 Q3) x
      = Cert.ReferenceIdeal.Read.val_main_v41 (m ((c : Thread nD τ).loc main_arg0)) (m ((c : Thread nD τ).loc main_arg1)) (((cfg0.win 4).blk t).view.emb y) := by
  obtain ⟨r, d, rfl⟩ : ∃ r d, x = ix2 r d := ⟨x 0, x 1, by blk_ext []⟩
  have ht : t.val < 64 := t.isLt
  have e : ((cfg0.win 4).blk t).view.emb y
      = ix2 ⟨t.val / 16 * 2048 + ((t.val % 4 * 4 + blk.val) * 128 + r.val), by omega⟩ ⟨t.val / 4 % 4 * 512 + 2 * 128 + d.val, by omega⟩ := by
    have h0' : (y 0).val = blk.val * 128 + r.val := h0
    have h1' : (y 1).val = 256 + d.val := h1
    blk_ext [idx t]
  have hc := core (at0 m c) (sinks m c) hX hσ ⟨t.val / 16, by omega⟩ ⟨t.val / 4 % 4, by omega⟩ 2 ⟨t.val % 4 * 4 + blk.val, by omega⟩ r d
  rw [e]
  refine Eq.trans ?_ hc
  have eσ : iblk m c 3 t (ix3 0 0 ⟨256 + r.val, by omega⟩) = sinks m c (ix1 ⟨t.val / 4 % 4 * 4 + (2 : Fin 4).val, by omega⟩) :=
    (read3 m c t ⟨256 + r.val, by omega⟩).trans (congrArg (sinks m c) (congrArg ix1 (Fin.ext (by
      show t.val / 4 % 4 * 4 + (256 + r.val) / 128 = t.val / 4 % 4 * 4 + 2
      omega))))
  rw [tile2, hw, eσ]
  simp only [maskAt _ (show t.val % 4 * 4 + blk.val < 16 by omega), hK, hV, hQ]

/-- The tile of head 3 of a group, for a block of queries, is the reference's. -/
theorem point3 (c : Dev nD) (hX : ∀ i, Real? (at0 m c i)) (hσ : ∀ i, Real? (sinks m c i)) (t : Fin cfg0.N) (blk : Fin 4)
    (w : BitVec 32) (hw : w = BitVec.ofNat 32 (t.val % 4 * 4 + blk.val)) {K V : Vec Ideal S384x128 .bf16}
    {Q0 Q1 Q2 Q3 : Vec Ideal S128x128 .bf16} (y : S512x512.Idx) (x : S128x128.Idx)
    (h0 : (y 0).val = blk.val * 128 + (x 0).val) (h1 : (y 1).val = 384 + (x 1).val)
    (hK : ∀ j x, K (ix2 j x) = keyAt m c t blk j x) (hV : ∀ j x, V (ix2 j x) = valueAt' m c t blk j x)
    (hQ : ∀ r x, Q3 (ix2 r x) = queryAt m c t blk 3 r x) :
    k0_pay34 (blockOut w K V (iblk m c 3 t) Q0 Q1 Q2 Q3) x
      = Cert.ReferenceIdeal.Read.val_main_v41 (m ((c : Thread nD τ).loc main_arg0)) (m ((c : Thread nD τ).loc main_arg1)) (((cfg0.win 4).blk t).view.emb y) := by
  obtain ⟨r, d, rfl⟩ : ∃ r d, x = ix2 r d := ⟨x 0, x 1, by blk_ext []⟩
  have ht : t.val < 64 := t.isLt
  have e : ((cfg0.win 4).blk t).view.emb y
      = ix2 ⟨t.val / 16 * 2048 + ((t.val % 4 * 4 + blk.val) * 128 + r.val), by omega⟩ ⟨t.val / 4 % 4 * 512 + 3 * 128 + d.val, by omega⟩ := by
    have h0' : (y 0).val = blk.val * 128 + r.val := h0
    have h1' : (y 1).val = 384 + d.val := h1
    blk_ext [idx t]
  have hc := core (at0 m c) (sinks m c) hX hσ ⟨t.val / 16, by omega⟩ ⟨t.val / 4 % 4, by omega⟩ 3 ⟨t.val % 4 * 4 + blk.val, by omega⟩ r d
  rw [e]
  refine Eq.trans ?_ hc
  have eσ : iblk m c 3 t (ix3 0 0 ⟨384 + r.val, by omega⟩) = sinks m c (ix1 ⟨t.val / 4 % 4 * 4 + (3 : Fin 4).val, by omega⟩) :=
    (read3 m c t ⟨384 + r.val, by omega⟩).trans (congrArg (sinks m c) (congrArg ix1 (Fin.ext (by
      show t.val / 4 % 4 * 4 + (384 + r.val) / 128 = t.val / 4 % 4 * 4 + 3
      omega))))
  rw [tile3, hw, eσ]
  simp only [maskAt _ (show t.val % 4 * 4 + blk.val < 16 by omega), hK, hV, hQ]

set_option maxHeartbeats 2000000 in
/-- The attention's array after the run is the reference's, on real arguments. -/
theorem final (c : Dev nD) (hX : ∀ i, Real? (at0 m c i)) (hσ : ∀ i, Real? (sinks m c i)) : (dats m 0 c).arrAt 4 (cfgs 0).N
    = Cert.ReferenceIdeal.Read.val_main_v41 (m ((c : Thread nD τ).loc main_arg0)) (m ((c : Thread nD τ).loc main_arg1)) := by
  refine (dats m 0 c).arrAt_eq_of_covers 4 _ (by decide +kernel) fun t _ y => ?_
  blk_simp; rw [after0_4]
  unfold outsAt0; frame_out
  canon_tiles x h
  all_goals simp only [scoresA, scoresB, scoresC, scoresD, outA, outB, outC, outD, tileB0, tileB1, tileB2, tileB3, tileC0, tileC1,
    tileC2, tileC3, tileD0, tileD1, tileD2, tileD3]
  case piece0 =>
    refine point3 m c hX hσ t 3 _ (words t).2.2.2 y x (by show _ = 3 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece1 =>
    refine point2 m c hX hσ t 3 _ (words t).2.2.2 y x (by show _ = 3 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece2 =>
    refine point1 m c hX hσ t 3 _ (words t).2.2.2 y x (by show _ = 3 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece3 =>
    refine point0 m c hX hσ t 3 _ (words t).2.2.2 y x (by show _ = 3 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece4 =>
    refine point3 m c hX hσ t 2 _ (words t).2.2.1 y x (by show _ = 2 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece5 =>
    refine point2 m c hX hσ t 2 _ (words t).2.2.1 y x (by show _ = 2 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece6 =>
    refine point1 m c hX hσ t 2 _ (words t).2.2.1 y x (by show _ = 2 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece7 =>
    refine point0 m c hX hσ t 2 _ (words t).2.2.1 y x (by show _ = 2 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece8 =>
    refine point3 m c hX hσ t 1 _ (words t).2.1 y x (by show _ = 1 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece9 =>
    refine point2 m c hX hσ t 1 _ (words t).2.1 y x (by show _ = 1 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece10 =>
    refine point1 m c hX hσ t 1 _ (words t).2.1 y x (by show _ = 1 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece11 =>
    refine point0 m c hX hσ t 1 _ (words t).2.1 y x (by show _ = 1 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece12 =>
    refine point3 m c hX hσ t 0 _ (words t).1 y x (by show _ = 0 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece13 =>
    refine point2 m c hX hσ t 0 _ (words t).1 y x (by show _ = 0 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece14 =>
    refine point1 m c hX hσ t 0 _ (words t).1 y x (by show _ = 0 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega
  case piece15 =>
    refine point0 m c hX hσ t 0 _ (words t).1 y x (by show _ = 0 * 128 + (x 0).val; omega) (by omega) (fun j x => ?_) (fun j x => ?_) (fun r x => ?_)
    · pointwise
      blk_ext [iblk, V, idx t, offs t]
      all_goals rfl
    · pointwise
      blk_ext [iblk, V, idx t, offs t]
      all_goals rfl
    · pointwise
      blk_ext [iblk, V, idx t]
      all_goals first | rfl | omega

end Cert.Calls.Swa

end
-- ==== Proof.Calls.Finite.lean ====
/- What the preconditions say: the entries they name are real numbers. -/
module

public import proofs.«01_k».proof.Pre_finite_qkv
public import proofs.«01_k».proof.Pre_finite_mem
public import proofs.«01_k».proof.Proof.Calls.Band
public import Idealize.ShloMosaic.Lib.Claim
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

namespace Cert.Calls

/-- The side conditions of the precondition's operations. -/
instance factsQkv : Cert.Pre_finite_qkv.Facts where
  bitsLt_bf16_f32 := by decide
  bcast_S_S8192x9216 := by decide
  bcast_S_S16 := by decide

/-- And of the precondition of the memory cross-attention. -/
instance factsMem : Cert.Pre_finite_mem.Facts where
  bcast_S_S4096 := by decide
  bcast_S_S4096x1024 := by decide
  slices_S1024x2048_S1024x1024_0_0 := by decide
  bitsLt_bf16_f32 := by decide
  bcast_S_S1024x1024 := by decide

/-- The pattern of plus infinity. -/
theorem ofBits_top : FloatOps.ofBits (F := Ideal) .f32 0x7F800000#32 = (⊤ : EReal) := by
  show Ideal.ofBits .f32 0x7F800000#32 = (⊤ : EReal)
  simp [Ideal.ofBits, Ideal.ieee]

/-- A number whose absolute value is below plus infinity is real. -/
theorem real_of_lt {φ : FTy} (x : EReal)
    (h : BitVec.ofBool (decide (FloatOps.absf (F := Ideal) (φ := φ) x < Ideal.ofBits .f32 2139095040#32)) = 1#1) : Real? x := by
  have e : Ideal.ofBits .f32 2139095040#32 = (⊤ : EReal) := ofBits_top
  rw [e] at h
  have hlt : FloatOps.absf (F := Ideal) (φ := φ) x < (⊤ : EReal) := by
    by_contra hc
    rw [decide_eq_false hc] at h
    exact absurd h (by decide)
  have ha : FloatOps.absf (F := Ideal) (φ := φ) x = max x (-x) := rfl
  rw [ha] at hlt
  constructor
  · rintro rfl
    exact absurd (lt_of_le_of_lt (le_max_left _ _) hlt) (lt_irrefl _)
  · rintro rfl
    have : (⊤ : EReal) ≤ max ⊥ (-⊥) := le_max_right _ _
    exact absurd (lt_of_le_of_lt this hlt) (lt_irrefl _)

end Cert.Calls

end
-- ==== Proof.Calls.Claim1.lean ====
/- The claims about the attention over a window of keys with a sink. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Calls.Swa
public import proofs.«01_k».proof.Proof.Calls.Finite
public import Idealize.ShloMosaic.Lib.Claim
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

namespace Cert.Calls.Claim1

/-- The kernel runs and leaves its arguments unchanged. -/
theorem frame_P : Cert.quiescent_Kernel := fun m ρ _ => Cert.Kernel.Gen.frame m ρ

/-- So does the kernel over the extended reals. -/
theorem frame_PI : Cert.quiescent_KernelIdeal := fun m ρ _ => Cert.KernelIdeal.Gen.frame m ρ

/-- The reference runs and leaves its arguments unchanged. -/
theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the kernel, under the precondition of the value claim. -/
theorem frame_PI_pre : Cert.quiescent_KernelIdeal_pre_finite_qkv := fun m ρ _ => Cert.KernelIdeal.Gen.frame m ρ

/-- The same of the reference, under the precondition of the value claim. -/
theorem frame_RI_pre : Cert.quiescent_ReferenceIdeal_pre_finite_qkv := fun m ρ _ => frame_RI m ρ trivial

/-- The kernel's two constants are what their names stand for: the scale is one over the root of 128, the mask minus
    infinity. -/
theorem preserves : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "mask" .f32 0xF149F2CA#32 ⊥ rfl⟩

/-- On arguments that satisfy the precondition every projected entry is a real number. -/
theorem real_qkv (m : (ℓ : Loc Cert.KernelIdeal.nD Cert.KernelIdeal.τ Cert.KernelIdeal.sig) → Buf (Elt Ideal) ℓ)
    (h : Cert.Pre_KernelIdeal_finite_qkv m) (c : Dev Cert.KernelIdeal.nD) (i : Cert.KernelIdeal.S8192x9216.Idx) :
    Cert.Calls.Real? (Cert.Calls.Swa.at0 m c i) := by
  have h1 := congrFun (h c).1 i
  pointwise [Cert.Pre_finite_qkv.fn] at h1
  exact real_of_lt _ h1

/-- And every sink is. -/
theorem real_sink (m : (ℓ : Loc Cert.KernelIdeal.nD Cert.KernelIdeal.τ Cert.KernelIdeal.sig) → Buf (Elt Ideal) ℓ)
    (h : Cert.Pre_KernelIdeal_finite_qkv m) (c : Dev Cert.KernelIdeal.nD) (i : Cert.KernelIdeal.S16.Idx) :
    Cert.Calls.Real? (Cert.Calls.Swa.sinks m c i) := by
  have h1 := congrFun (h c).2 i
  pointwise [Cert.Pre_finite_qkv.fn] at h1
  exact real_of_lt _ h1

/-- The kernel and the reference compute the same over the extended reals, on real arguments. -/
theorem algebraic : Cert.algebraic_KernelIdeal_ReferenceIdeal_pre_finite_qkv := by
  pair_intro
  · run_from Cert.KernelIdeal.Value.run_blocks m g
  · run_from Cert.ReferenceIdeal.Value.run m' g'
    rw [Cert.ReferenceIdeal.Read.val_main_v41_eq, (hagree c).1, (hagree c).2]
    exact (Cert.Calls.Swa.final m c (fun i => real_qkv m hpre c i) (fun i => real_sink m hpre c i)).symm

end Cert.Calls.Claim1

end
-- ==== Proof.Calls.Norm.lean ====
/- The root-mean-square norm of a row, element by element, over the extended reals. -/
module

public import Idealize.ShloMosaic.PureOps.Ideal

@[expose] public section

noncomputable section

open Idealize.ShloMosaic

namespace Cert.Calls

/-- Element `k` of the normalised row: the row's element times the reciprocal root of the row's mean square plus the
    small constant, times the gain. `c` is the row's length as the programs' literal. -/
def rms {n : ℕ} (c : BitVec 32) (f : Fin n → EReal) (g : Fin n → EReal) (k : Fin n) : EReal :=
  f k * Ideal.rsqrt (Ideal.div (∑ j, f j * f j) (Ideal.ofBits .f32 c) + Ideal.ofBits .f32 0x358637BD#32) * g k

end Cert.Calls

end
-- ==== Proof.Calls.InPay.lean ====
/- What the blocks of the input projection hold: the norm, the product, and the rotated heads. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Pointwise
public import proofs.«01_k».proof.Proof.Calls.Norm

@[expose] public section

set_option maxRecDepth 16384

noncomputable section

open Idealize.ShloMosaic Idealize.ShloMosaic.TcCoe Idealize.SL.Sem
open Idealize.ShloMosaic.Pipeline (Dat)

namespace Cert.Calls.InPay

open Cert.Kernel2Ideal Cert.Kernel2Ideal.Gen

/-- The normalised block at an index. -/
theorem payNorm (x : Vec Ideal S512x4096 .f32) (w : Vec Ideal S1x4096 .f32) (a : Fin 512) (b : Fin 4096) :
    k0_pay1 x w (ix2 a b) = rms 0x45800000#32 (fun k => x (ix2 a k)) (fun k => w (ix2 0 k)) b := by
  pointwise [k0_pay1, rms]

/-- The projected block at an index. -/
theorem payDot (x : Vec Ideal S512x4096 .bf16) (w : Vec Ideal S4096x1024 .bf16) (a : Fin 512) (b : Fin 1024) :
    k0_pay2 x w (ix2 a b) = ∑ k : Fin 4096, x (ix2 a k) * w (ix2 k b) := by
  pointwise [k0_pay2]

/-- Half a head back is half a head on. -/
theorem back (d : Fin 128) : d.val + 128 - 64 = d.val + 64 := by omega

/-- A head that starts at column `o`, rotated: the element times the first table's, plus the element half a head away
    times the second table's. -/
def roped (A : FVec Ideal S512x1024 .f32) (o : ℕ) (ho : o + 128 ≤ 1024) (C S : Vec Ideal S512x128 .f32) (a : Fin 512)
    (d : Fin 128) : EReal :=
  A (ix2 a ⟨o + d.val, by omega⟩) * C (ix2 a d) + A (ix2 a ⟨o + (d.val + 64) % 128, by omega⟩) * S (ix2 a d)

/-- The rotated head at column 0. -/
theorem pay8 (A : FVec Ideal S512x1024 .f32) (C S : Vec Ideal S512x128 .f32) (a : Fin 512) (d : Fin 128) :
    k0_pay8 A C S (ix2 a d) = roped A 0 (by omega) C S a d := by
  pointwise [k0_pay8, roped]
  simp only [back]

/-- The rotated head at column 128. -/
theorem pay9 (A : FVec Ideal S512x1024 .f32) (C S : Vec Ideal S512x128 .f32) (a : Fin 512) (d : Fin 128) :
    k0_pay9 A C S (ix2 a d) = roped A 128 (by omega) C S a d := by
  pointwise [k0_pay9, roped]
  simp only [back]

/-- The rotated head at column 256. -/
theorem pay10 (A : FVec Ideal S512x1024 .f32) (C S : Vec Ideal S512x128 .f32) (a : Fin 512) (d : Fin 128) :
    k0_pay10 A C S (ix2 a d) = roped A 256 (by omega) C S a d := by
  pointwise [k0_pay10, roped]
  simp only [back]

/-- The rotated head at column 384. -/
theorem pay11 (A : FVec Ideal S512x1024 .f32) (C S : Vec Ideal S512x128 .f32) (a : Fin 512) (d : Fin 128) :
    k0_pay11 A C S (ix2 a d) = roped A 384 (by omega) C S a d := by
  pointwise [k0_pay11, roped]
  simp only [back]

/-- The rotated head at column 512. -/
theorem pay12 (A : FVec Ideal S512x1024 .f32) (C S : Vec Ideal S512x128 .f32) (a : Fin 512) (d : Fin 128) :
    k0_pay12 A C S (ix2 a d) = roped A 512 (by omega) C S a d := by
  pointwise [k0_pay12, roped]
  simp only [back]

/-- The rotated head at column 640. -/
theorem pay13 (A : FVec Ideal S512x1024 .f32) (C S : Vec Ideal S512x128 .f32) (a : Fin 512) (d : Fin 128) :
    k0_pay13 A C S (ix2 a d) = roped A 640 (by omega) C S a d := by
  pointwise [k0_pay13, roped]
  simp only [back]

/-- The rotated head at column 0. -/
theorem pay14 (A : FVec Ideal S512x1024 .f32) (C S : Vec Ideal S512x128 .f32) (a : Fin 512) (d : Fin 128) :
    k0_pay14 A C S (ix2 a d) = roped A 0 (by omega) C S a d := by
  pointwise [k0_pay14, roped]
  simp only [back]

/-- The rotated head at column 128. -/
theorem pay15 (A : FVec Ideal S512x1024 .f32) (C S : Vec Ideal S512x128 .f32) (a : Fin 512) (d : Fin 128) :
    k0_pay15 A C S (ix2 a d) = roped A 128 (by omega) C S a d := by
  pointwise [k0_pay15, roped]
  simp only [back]

/-- The rotated head at column 256. -/
theorem pay16 (A : FVec Ideal S512x1024 .f32) (C S : Vec Ideal S512x128 .f32) (a : Fin 512) (d : Fin 128) :
    k0_pay16 A C S (ix2 a d) = roped A 256 (by omega) C S a d := by
  pointwise [k0_pay16, roped]
  simp only [back]

/-- The rotated head at column 768. -/
theorem pay3 (x : Vec Ideal S512x4096 .bf16) (w : Vec Ideal S4096x1024 .bf16) (C S : Vec Ideal S512x128 .f32) (a : Fin 512) (d : Fin 128) :
    k0_pay3 x w C S (ix2 a d) = roped (k0_pay2 x w) 768 (by omega) C S a d := by
  unfold k0_pay3
  generalize k0_pay2 x w = A
  pointwise [roped]
  simp only [back]

/-- The rotated head at column 896. -/
theorem pay4 (x : Vec Ideal S512x4096 .bf16) (w : Vec Ideal S4096x1024 .bf16) (C S : Vec Ideal S512x128 .f32) (a : Fin 512) (d : Fin 128) :
    k0_pay4 x w C S (ix2 a d) = roped (k0_pay2 x w) 896 (by omega) C S a d := by
  unfold k0_pay4
  generalize k0_pay2 x w = A
  pointwise [roped]
  simp only [back]

/-- The rotated head at column 384. -/
theorem pay5 (x : Vec Ideal S512x4096 .bf16) (w : Vec Ideal S4096x1024 .bf16) (C S : Vec Ideal S512x128 .f32) (a : Fin 512) (d : Fin 128) :
    k0_pay5 x w C S (ix2 a d) = roped (k0_pay2 x w) 384 (by omega) C S a d := by
  unfold k0_pay5
  generalize k0_pay2 x w = A
  pointwise [roped]
  simp only [back]

/-- The columns from 512 on, as they are. -/
theorem pay6 (x : Vec Ideal S512x4096 .bf16) (w : Vec Ideal S4096x1024 .bf16) (a b : Fin 512) :
    k0_pay6 x w (ix2 a b) = k0_pay2 x w (ix2 a ⟨512 + b.val, by omega⟩) := by
  unfold k0_pay6
  generalize k0_pay2 x w = A
  pointwise

/-- The whole block, as it is. -/
theorem pay7 (x : Vec Ideal S512x4096 .bf16) (w : Vec Ideal S4096x1024 .bf16) (y : S512x1024.Idx) :
    k0_pay7 x w y = k0_pay2 x w y := rfl

end Cert.Calls.InPay

end
-- ==== Proof.Calls.InRef.lean ====
/- The reference of the input projection at an index: the norm and the product, and the rotation of queries and keys. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Pointwise
public import proofs.«01_k».proof.Proof.Calls.Norm

@[expose] public section

set_option maxRecDepth 16384

noncomputable section

open Idealize.ShloMosaic Idealize.ShloMosaic.TcCoe Idealize.SL.Sem
open Idealize.ShloMosaic.Pipeline (Dat)

namespace Cert.Calls.InRef

open Cert.Reference2Ideal Cert.Reference2Ideal.Read

/-- The projected row at a column. -/
def proj (x : (⟨S4x2048x4096, .f32⟩ : BufTy).Contents (Elt Ideal)) (g : (⟨S4096, .f32⟩ : BufTy).Contents (Elt Ideal))
    (w : (⟨S4096x9216, .f32⟩ : BufTy).Contents (Elt Ideal)) (n : Fin 4) (s : Fin 2048) (b : Fin 9216) : EReal :=
  ∑ k : Fin 4096, rms 0x45800000#32 (fun k => x (ix3 n s k)) (fun k => g (ix1 k)) k * w (ix2 k b)

/-- The cosine and the sine of position `s` at frequency `d`. -/
def cosAt (s : Fin 2048) (d : Fin 64) : EReal := val_main_v29 (F := Ideal) (ix2 s d)
def sinAt (s : Fin 2048) (d : Fin 64) : EReal := val_main_v31 (F := Ideal) (ix2 s d)

/-- A row rotated head by head: the first half of a head is turned against the second. -/
def turn (f : Fin 9216 → EReal) (C S : Fin 64 → EReal) (b : Fin 9216) : EReal :=
  if h : b.val % 128 < 64 then
    f b * C ⟨b.val % 128, h⟩ - f ⟨b.val / 128 * 128 + (b.val % 128 + 64) % 128, by omega⟩ * S ⟨b.val % 128, h⟩
  else f b * C ⟨b.val % 128 - 64, by omega⟩
    + f ⟨b.val / 128 * 128 + (b.val % 128 + 64) % 128, by omega⟩ * S ⟨b.val % 128 - 64, by omega⟩

/-- The projected row: queries and keys rotated, the rest as it is. -/
def result (f : Fin 9216 → EReal) (C S : Fin 64 → EReal) (b : Fin 9216) : EReal :=
  if b.val < 2560 then turn f C S b else f b

variable (x : (⟨S4x2048x4096, .f32⟩ : BufTy).Contents (Elt Ideal)) (g : (⟨S4096, .f32⟩ : BufTy).Contents (Elt Ideal))
  (w : (⟨S4096x9216, .f32⟩ : BufTy).Contents (Elt Ideal))

/-- The product at an index. -/
theorem dot (n : Fin 4) (s : Fin 2048) (b : Fin 9216) : val_main_v13 x g w (ix3 n s b) = proj x g w n s b := by
  pointwise [proj, rms, val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]

/-- The keys' angles are the queries'. -/
theorem angles : val_main_v60 (F := Ideal) = val_main_v29 (F := Ideal) := rfl
theorem angles' : val_main_v62 (F := Ideal) = val_main_v31 (F := Ideal) := rfl

/-- A rotated query at an index. -/
theorem query (n : Fin 4) (s : Fin 2048) (h : Fin 16) (d : Fin 128) :
    val_main_v45 x g w (ix4 n s h d)
      = turn (fun b => val_main_v13 x g w (ix3 n s b)) (cosAt s) (sinAt s) ⟨h.val * 128 + d.val, by omega⟩ := by
  have hd : (h.val * 128 + d.val) % 128 = d.val := by omega
  have hq : (h.val * 128 + d.val) / 128 * 128 = h.val * 128 := by omega
  unfold turn cosAt sinAt
  by_cases hh : d.val < 64
  · rw [dif_pos (by show (h.val * 128 + d.val) % 128 < 64; omega)]
    simp only [hd, hq]
    have e : (d.val + 64) % 128 = d.val + 64 := by omega
    simp only [e]
    pointwise [val_main_v45, val_main_v44, val_main_v43, val_main_v42, val_main_v41, val_main_v40, val_main_v39, val_main_v38,
      val_main_v37, val_main_v36, val_main_v35, val_main_v34, val_main_v33, val_main_v32, val_main_v30, val_main_v16, val_main_v15, hh]
    simp only [Nat.add_comm 64]
  · rw [dif_neg (by show ¬(h.val * 128 + d.val) % 128 < 64; omega)]
    simp only [hd, hq]
    have e : (d.val + 64) % 128 = d.val - 64 := by omega
    simp only [e]
    pointwise [val_main_v45, val_main_v44, val_main_v43, val_main_v42, val_main_v41, val_main_v40, val_main_v39, val_main_v38,
      val_main_v37, val_main_v36, val_main_v35, val_main_v34, val_main_v33, val_main_v32, val_main_v30, val_main_v16, val_main_v15, hh]
    have e2 : 64 + (d.val - 64) = d.val := by omega
    simp only [e2]

/-- A rotated key at an index. -/
theorem key (n : Fin 4) (s : Fin 2048) (h : Fin 4) (d : Fin 128) :
    val_main_v76 x g w (ix4 n s h d)
      = turn (fun b => val_main_v13 x g w (ix3 n s b)) (cosAt s) (sinAt s) ⟨2048 + h.val * 128 + d.val, by omega⟩ := by
  have hd : (2048 + h.val * 128 + d.val) % 128 = d.val := by omega
  have hq : (2048 + h.val * 128 + d.val) / 128 * 128 = 2048 + h.val * 128 := by omega
  have e3 : ∀ z, 2048 + (h.val * 128 + z) = 2048 + h.val * 128 + z := fun z => by omega
  unfold turn cosAt sinAt
  rw [← angles, ← angles']
  by_cases hh : d.val < 64
  · rw [dif_pos (by show (2048 + h.val * 128 + d.val) % 128 < 64; omega)]
    simp only [hd, hq]
    have e : (d.val + 64) % 128 = d.val + 64 := by omega
    simp only [e]
    pointwise [val_main_v76, val_main_v75, val_main_v74, val_main_v73, val_main_v72, val_main_v71, val_main_v70, val_main_v69,
      val_main_v68, val_main_v67, val_main_v66, val_main_v65, val_main_v64, val_main_v63, val_main_v61, val_main_v47, val_main_v46, hh]
    simp only [e3, Nat.add_comm 64]
  · rw [dif_neg (by show ¬(2048 + h.val * 128 + d.val) % 128 < 64; omega)]
    simp only [hd, hq]
    have e : (d.val + 64) % 128 = d.val - 64 := by omega
    simp only [e]
    pointwise [val_main_v76, val_main_v75, val_main_v74, val_main_v73, val_main_v72, val_main_v71, val_main_v70, val_main_v69,
      val_main_v68, val_main_v67, val_main_v66, val_main_v65, val_main_v64, val_main_v63, val_main_v61, val_main_v47, val_main_v46, hh]
    have e2 : 64 + (d.val - 64) = d.val := by omega
    simp only [e3, e2]

/-- The reference at an index. -/
theorem reference (a : Fin 8192) (b : Fin 9216) :
    val_main_v82 x g w (ix2 a b)
      = result (proj x g w ⟨a.val / 2048, by omega⟩ ⟨a.val % 2048, by omega⟩) (cosAt ⟨a.val % 2048, by omega⟩)
          (sinAt ⟨a.val % 2048, by omega⟩) b := by
  have hf : proj x g w ⟨a.val / 2048, by omega⟩ ⟨a.val % 2048, by omega⟩
      = fun b => val_main_v13 x g w (ix3 ⟨a.val / 2048, by omega⟩ ⟨a.val % 2048, by omega⟩ b) := funext fun b => (dot x g w _ _ b).symm
  rw [hf]
  unfold result
  by_cases h1 : b.val < 2048
  · have e : b = ⟨(⟨b.val / 128, by omega⟩ : Fin 16).val * 128 + (⟨b.val % 128, by omega⟩ : Fin 128).val, by
      show b.val / 128 * 128 + b.val % 128 < 9216; omega⟩ := Fin.ext (by show b.val = b.val / 128 * 128 + b.val % 128; omega)
    rw [if_pos (by omega)]
    conv_rhs => rw [e]
    rw [← query]
    pointwise [val_main_v82, val_main_v81, val_main_v80, val_main_v77, h1]
  · by_cases h2 : b.val < 2560
    · have e : b = ⟨2048 + (⟨(b.val - 2048) / 128, by omega⟩ : Fin 4).val * 128 + (⟨b.val % 128, by omega⟩ : Fin 128).val, by
        show 2048 + (b.val - 2048) / 128 * 128 + b.val % 128 < 9216; omega⟩ := Fin.ext (by
          show b.val = 2048 + (b.val - 2048) / 128 * 128 + b.val % 128; omega)
      have h3 : b.val - 2048 < 512 := by omega
      have e4 : (b.val - 2048) % 128 = b.val % 128 := by omega
      rw [if_pos h2]
      conv_rhs => rw [e]
      rw [← key]
      pointwise [val_main_v82, val_main_v81, val_main_v80, val_main_v78, h1, h2, h3]
      simp only [e4]
    · have h3 : ¬ b.val - 2048 < 512 := by omega
      have e4 : 2560 + (b.val - 2048 - 512) = b.val := by omega
      rw [if_neg h2]
      pointwise [val_main_v82, val_main_v81, val_main_v80, val_main_v79, h1, h2, h3]
      simp only [e4]

end Cert.Calls.InRef

end
-- ==== Proof.Calls.InProj.lean ====
/- The input projection: the norm kept over the column blocks, the product, and the rotation of queries and keys. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack
public import Idealize.ShloMosaic.Lib.Pointwise
public import proofs.«01_k».proof.Proof.Calls.Norm
public import proofs.«01_k».proof.Proof.Calls.InPay
public import proofs.«01_k».proof.Proof.Calls.InRef

@[expose] public section

set_option maxRecDepth 16384

noncomputable section

open Idealize.ShloMosaic Idealize.ShloMosaic.TcCoe Idealize.SL.Sem
open Idealize.ShloMosaic.Pipeline (Dat)

namespace Cert.Calls.InProj

open Cert.Kernel2Ideal Cert.Kernel2Ideal.Gen Cert.Reference2Ideal.Read Cert.Calls.InPay Cert.Calls.InRef

variable (m : (ℓ : Loc nD τ sig) → Buf (Elt Ideal) ℓ)

/-- Each window's block index at each grid point: the row block is the point's quotient by nine, the column block its
    remainder; the tables' row block is that of the position. -/
theorem idx : ∀ t : Fin cfg0.N, win0_0.index t = ![t.val / 9, 0]
    ∧ win0_1.index t = ![0, 0]
    ∧ win0_2.index t = ![0, t.val % 9]
    ∧ win0_3.index t = ![t.val / 9 % 4, 0]
    ∧ win0_4.index t = ![t.val / 9 % 4, 0]
    ∧ win0_5.index t = ![t.val / 9, t.val % 9] :=
  (by decide +kernel : ∀ t : Fin grid0.N, _)

/-- Row `a` of the block of point `t` as a row of the whole array, its batch and its position, and column `b`. -/
abbrev row (t : Fin cfg0.N) (a : Fin 512) : Fin 8192 := ⟨t.val / 9 * 512 + a.val, by have := t.isLt; have : cfg0.N = 144 := rfl; omega⟩
abbrev bat (t : Fin cfg0.N) (a : Fin 512) : Fin 4 := ⟨(row t a).val / 2048, by have := (row t a).isLt; omega⟩
abbrev pos (t : Fin cfg0.N) (a : Fin 512) : Fin 2048 := ⟨(row t a).val % 2048, by omega⟩
abbrev col (t : Fin cfg0.N) (b : Fin 1024) : Fin 9216 := ⟨t.val % 9 * 1024 + b.val, by omega⟩

/-- The activations' block at an index. -/
theorem read0 (c : Dev nD) (t : Fin cfg0.N) (a : Fin 512) (b : Fin 4096) :
    iblk m c 0 t (ix2 a b) = m ((c : Thread nD τ).loc main_arg0) (ix3 (bat t a) (pos t a) b) := by
  blk_simp [iblk, idx t]
  entry_read
  pointwise
  blk_ext [idx t]

/-- The gain's row at an index. -/
theorem read1 (c : Dev nD) (t : Fin cfg0.N) (b : Fin 4096) :
    iblk m c 1 t (ix2 0 b) = m ((c : Thread nD τ).loc main_arg1) (ix1 b) := by
  blk_simp [iblk, idx t]
  entry_read
  pointwise
  blk_ext [idx t]

/-- The weights' block at an index. -/
theorem read2 (c : Dev nD) (t : Fin cfg0.N) (a : Fin 4096) (b : Fin 1024) :
    iblk m c 2 t (ix2 a b) = m ((c : Thread nD τ).loc main_arg2) (ix2 a (col t b)) := by
  blk_simp [iblk, idx t]
  entry_read
  pointwise
  blk_ext [idx t]

/-- The frequency of column `d` of the tables. -/
abbrev freq (d : Fin 128) : Fin 64 := ⟨d.val % 64, by omega⟩

/-- The cosines' block at an index. -/
theorem read3 (c : Dev nD) (t : Fin cfg0.N) (a : Fin 512) (d : Fin 128) :
    iblk m c 3 t (ix2 a d) = cosAt (pos t a) (freq d) := by
  have e : ((cfg0.win 3).blk t).view.emb (ix2 a d) = ix2 (pos t a) d := by
    blk_ext [idx t]
  show V m c main_v17 (((cfg0.win 3).blk t).view.emb (ix2 a d)) = _
  rw [e]
  entry_read
  unfold cosAt
  by_cases h : d.val < 64
  · have hf : freq d = ⟨d.val, h⟩ := Fin.ext (by show d.val % 64 = d.val; omega)
    rw [hf]
    pointwise [h, val_main_v29, val_main_v28, val_main_v27, val_main_v26, val_main_v25, val_main_v24, val_main_v23, val_main_v22, val_main_v21, val_main_v20, val_main_v19, val_main_v18, val_main_v17, val_main_v14, val_main_cst_2, val_main_cst_3]
  · have hf : freq d = ⟨d.val - 64, by omega⟩ := Fin.ext (by show d.val % 64 = d.val - 64; omega)
    rw [hf]
    pointwise [h, val_main_v29, val_main_v28, val_main_v27, val_main_v26, val_main_v25, val_main_v24, val_main_v23, val_main_v22, val_main_v21, val_main_v20, val_main_v19, val_main_v18, val_main_v17, val_main_v14, val_main_cst_2, val_main_cst_3]

/-- The signed sines' block at an index. -/
theorem read4 (c : Dev nD) (t : Fin cfg0.N) (a : Fin 512) (d : Fin 128) :
    iblk m c 4 t (ix2 a d) = if d.val < 64 then - sinAt (pos t a) (freq d) else sinAt (pos t a) (freq d) := by
  have e : ((cfg0.win 4).blk t).view.emb (ix2 a d) = ix2 (pos t a) d := by
    blk_ext [idx t]
  show V m c main_v19 (((cfg0.win 4).blk t).view.emb (ix2 a d)) = _
  rw [e]
  entry_read
  unfold sinAt
  by_cases h : d.val < 64
  · have hf : freq d = ⟨d.val, h⟩ := Fin.ext (by show d.val % 64 = d.val; omega)
    rw [hf]
    pointwise [h, val_main_v31, val_main_v28, val_main_v27, val_main_v26, val_main_v25, val_main_v24, val_main_v23, val_main_v22, val_main_v21, val_main_v20, val_main_v19, val_main_v18, val_main_v17, val_main_v14, val_main_cst_2, val_main_cst_3]
  · have hf : freq d = ⟨d.val - 64, by omega⟩ := Fin.ext (by show d.val % 64 = d.val - 64; omega)
    rw [hf]
    pointwise [h, val_main_v31, val_main_v28, val_main_v27, val_main_v26, val_main_v25, val_main_v24, val_main_v23, val_main_v22, val_main_v21, val_main_v20, val_main_v19, val_main_v18, val_main_v17, val_main_v14, val_main_cst_2, val_main_cst_3]

/-- The row of the projected array that the reference has for row `a` of point `t`'s block. -/
abbrev line (c : Dev nD) (t : Fin cfg0.N) (a : Fin 512) : Fin 9216 → EReal :=
  proj (m ((c : Thread nD τ).loc main_arg0)) (m ((c : Thread nD τ).loc main_arg1)) (m ((c : Thread nD τ).loc main_arg2)) (bat t a) (pos t a)

/-- The normalised row that the scratch keeps. -/
abbrev norm (c : Dev nD) (t : Fin cfg0.N) (a : Fin 512) (b : Fin 4096) : EReal :=
  rms 0x45800000#32 (fun k => m ((c : Thread nD τ).loc main_arg0) (ix3 (bat t a) (pos t a) k))
    (fun k => m ((c : Thread nD τ).loc main_arg1) (ix1 k)) b

/-- It depends on the point by the row alone. -/
theorem norm_congr (c : Dev nD) (t t' : Fin cfg0.N) (a : Fin 512) (b : Fin 4096) (e : row t a = row t' a) :
    norm m c t a b = norm m c t' a b := by
  have eb : bat t a = bat t' a := Fin.ext (congrArg (fun r : Fin 8192 => r.val / 2048) e)
  have ep : pos t a = pos t' a := Fin.ext (congrArg (fun r : Fin 8192 => r.val % 2048) e)
  unfold norm; rw [eb, ep]

/-- The scratch after every point holds the normalised row block of the point. -/
theorem carried (c : Dev nD) : ∀ (n : ℕ) (hn : n < cfg0.N) (a : Fin 512) (b : Fin 4096), (outsAt0 m c n hn).2 (ix2 a b)
      = norm m c ⟨n, hn⟩ a b := by
  intro n
  induction n using Nat.strong_induction_on with
  | _ n ih =>
    intro hn a b
    have step : ¬ n % 9 = 0 → (outsAt0 m c (n - 1) (Nat.lt_of_le_of_lt (Nat.sub_le _ _) hn)).2 (ix2 a b) = norm m c ⟨n, hn⟩ a b := by
      intro h
      rw [ih (n - 1) (by omega)]
      have e : row ⟨n - 1, Nat.lt_of_le_of_lt (Nat.sub_le _ _) hn⟩ a = row ⟨n, hn⟩ a := by
        apply Fin.ext; show (n - 1) / 9 * 512 + a.val = n / 9 * 512 + a.val; omega
      exact norm_congr m c _ _ a b e
    by_cases h : n % 9 = 0
    · rw [outsAt0_A m c ⟨n, hn⟩ h (by show n % 9 ≤ 1; omega) (by show ¬ n % 9 = 2; omega) (by show ¬ 3 ≤ n % 9; omega)]
      dsimp only; frame_out
      rw [payNorm]; simp only [read0, read1]
    · by_cases h1 : n % 9 ≤ 1
      · rw [outsAt0_B m c ⟨n, hn⟩ h h1 (by show ¬ n % 9 = 2; omega) (by show ¬ 3 ≤ n % 9; omega)]
        dsimp only; unfold sout0_B_0; exact step h
      · by_cases h2 : n % 9 = 2
        · rw [outsAt0_C m c ⟨n, hn⟩ h h1 h2 (by show ¬ 3 ≤ n % 9; omega)]
          dsimp only; unfold sout0_C_0; exact step h
        · rw [outsAt0_D m c ⟨n, hn⟩ h h1 h2 (by show 3 ≤ n % 9; omega)]
          dsimp only; unfold sout0_D_0; exact step h

/-- The product of the normalised block is the reference's row at the block's column. -/
theorem product (c : Dev nD) (t : Fin cfg0.N) (xn : Vec Ideal S512x4096 .bf16) (hx : ∀ a b, xn (ix2 a b) = norm m c t a b)
    (a : Fin 512) (b : Fin 1024) : k0_pay2 xn (iblk m c 2 t) (ix2 a b) = line m c t a (col t b) := by
  rw [payDot]; simp only [hx, read2]; rfl

/-- A head of the block, rotated with the tables' blocks, is the reference's row turned. -/
theorem head (c : Dev nD) (t : Fin cfg0.N) (A : FVec Ideal S512x1024 .f32) (C S : Vec Ideal S512x128 .f32)
    (hA : ∀ a b, A (ix2 a b) = line m c t a (col t b)) (hC : ∀ a d, C (ix2 a d) = iblk m c 3 t (ix2 a d))
    (hS : ∀ a d, S (ix2 a d) = iblk m c 4 t (ix2 a d)) (o : ℕ) (ho : o + 128 ≤ 1024) (h8 : o % 128 = 0) (a : Fin 512) (d : Fin 128) :
    roped A o ho C S a d
      = turn (line m c t a) (cosAt (pos t a)) (sinAt (pos t a)) (col t ⟨o + d.val, by omega⟩) := by
  have hm : (t.val % 9 * 1024 + (o + d.val)) % 128 = d.val := by omega
  have hq : (t.val % 9 * 1024 + (o + d.val)) / 128 * 128 = t.val % 9 * 1024 + o := by omega
  unfold roped turn
  rw [hA, hA, hC, hS, read3, read4]
  have e2 : col t ⟨o + (d.val + 64) % 128, by omega⟩
      = ⟨(t.val % 9 * 1024 + (o + d.val)) / 128 * 128 + ((t.val % 9 * 1024 + (o + d.val)) % 128 + 64) % 128, by omega⟩ :=
    Fin.ext (by show t.val % 9 * 1024 + (o + (d.val + 64) % 128) = _ / 128 * 128 + (_ % 128 + 64) % 128; rw [hm, hq]; omega)
  by_cases h : d.val < 64
  · have e1 : freq d = ⟨(t.val % 9 * 1024 + (o + d.val)) % 128, by omega⟩ := Fin.ext (by
      show d.val % 64 = (t.val % 9 * 1024 + (o + d.val)) % 128; omega)
    rw [dif_pos (by show (t.val % 9 * 1024 + (o + d.val)) % 128 < 64; omega), if_pos h, e1, e2, mul_neg, ← sub_eq_add_neg]
  · have e1 : freq d = ⟨(t.val % 9 * 1024 + (o + d.val)) % 128 - 64, by omega⟩ := Fin.ext (by
      show d.val % 64 = (t.val % 9 * 1024 + (o + d.val)) % 128 - 64; omega)
    rw [dif_neg (by show ¬ (t.val % 9 * 1024 + (o + d.val)) % 128 < 64; omega), if_neg h, e1, e2]

/-- The reference's element at index `y` of point `t`'s block. -/
abbrev goal (c : Dev nD) (t : Fin cfg0.N) (y : S512x1024.Idx) : EReal :=
  val_main_v82 (m ((c : Thread nD τ).loc main_arg0)) (m ((c : Thread nD τ).loc main_arg1)) (m ((c : Thread nD τ).loc main_arg2))
    (((cfg0.win 5).blk t).view.emb y)

/-- It is the reference's row at the block's row and column. -/
theorem goal_eq (c : Dev nD) (t : Fin cfg0.N) (a : Fin 512) (b : Fin 1024) :
    goal m c t (ix2 a b) = result (line m c t a) (cosAt (pos t a)) (sinAt (pos t a)) (col t b) := by
  have e : ((cfg0.win 5).blk t).view.emb (ix2 a b) = ix2 (row t a) (col t b) := by
    blk_ext [idx t]
  show val_main_v82 _ _ _ (((cfg0.win 5).blk t).view.emb (ix2 a b)) = _
  rw [e, reference]

/-- A rotated head at column `o` of a block that has queries or keys there is the reference's. -/
theorem turned (c : Dev nD) (t : Fin cfg0.N) (A : FVec Ideal S512x1024 .f32) (C S : Vec Ideal S512x128 .f32)
    (hA : ∀ a b, A (ix2 a b) = line m c t a (col t b)) (hC : ∀ a d, C (ix2 a d) = iblk m c 3 t (ix2 a d))
    (hS : ∀ a d, S (ix2 a d) = iblk m c 4 t (ix2 a d)) (o : ℕ) (ho : o + 128 ≤ 1024) (h8 : o % 128 = 0)
    (hr : t.val % 9 * 1024 + o + 128 ≤ 2560) (y : S512x1024.Idx) (a : Fin 512) (d : Fin 128) (h0 : (y 0).val = a.val)
    (h1 : (y 1).val = o + d.val) : roped A o ho C S a d = goal m c t y := by
  have hb : o + d.val < 1024 := by omega
  obtain rfl : y = ix2 a ⟨o + d.val, hb⟩ := by
    funext i
    match i with
    | 0 => exact Fin.ext h0
    | 1 => exact Fin.ext h1
  rw [goal_eq, head m c t A C S hA hC hS o ho h8 a d]
  unfold result
  rw [if_pos (by show t.val % 9 * 1024 + (o + d.val) < 2560; omega)]

/-- An element past the keys is the reference's. -/
theorem plain (c : Dev nD) (t : Fin cfg0.N) (xn : Vec Ideal S512x4096 .bf16) (hx : ∀ a b, xn (ix2 a b) = norm m c t a b)
    (y : S512x1024.Idx) (a : Fin 512) (b : Fin 1024) (h0 : (y 0).val = a.val) (h1 : (y 1).val = b.val)
    (hr : 2560 ≤ t.val % 9 * 1024 + b.val) : k0_pay2 xn (iblk m c 2 t) (ix2 a b) = goal m c t y := by
  obtain rfl : y = ix2 a b := by
    funext i
    match i with
    | 0 => exact Fin.ext h0
    | 1 => exact Fin.ext h1
  rw [goal_eq, product m c t xn hx]
  unfold result
  rw [if_neg (by show ¬ t.val % 9 * 1024 + b.val < 2560; omega)]

/-- What the point before left in the scratch is the row block of this point, but for the first column block. -/
theorem before (c : Dev nD) (t : Fin cfg0.N) (h : ¬ t.val % 9 = 0) (a : Fin 512) (b : Fin 4096) :
    (outsAt0 m c (t.val - 1) (Nat.lt_of_le_of_lt (Nat.sub_le _ _) t.isLt)).2 (ix2 a b) = norm m c t a b := by
  rw [carried m c]
  refine norm_congr m c _ _ a b (Fin.ext ?_)
  show (t.val - 1) / 9 * 512 + a.val = t.val / 9 * 512 + a.val; omega

set_option maxHeartbeats 2000000 in
/-- The projected array after the run is the reference's. -/
theorem final (c : Dev nD) : (dats m 0 c).arrAt 5 (cfgs 0).N
    = val_main_v82 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp; rw [after0_5]
  by_cases ht : t.val % 9 = 0
  · have hx : ∀ a b, k0_pay1 (iblk m c 0 t) (iblk m c 1 t) (ix2 a b) = norm m c t a b := fun a b => by
      rw [payNorm]; simp only [read0, read1]
    rw [outsAt0_A m c t ht (by omega) (by omega) (by omega)]; dsimp only; frame_out
    canon_tiles x h
    case piece0 =>
      obtain ⟨a, d, rfl⟩ : ∃ a d, x = ix2 a d := ⟨x 0, x 1, by blk_ext []⟩
      rw [pay4]
      exact turned m c t _ _ _ (product m c t _ hx) (fun _ _ => rfl) (fun _ _ => rfl) 896 _ (by omega) (by omega) y a d h0 h1
    case piece1 =>
      obtain ⟨a, d, rfl⟩ : ∃ a d, x = ix2 a d := ⟨x 0, x 1, by blk_ext []⟩
      rw [pay3]
      exact turned m c t _ _ _ (product m c t _ hx) (fun _ _ => rfl) (fun _ _ => rfl) 768 _ (by omega) (by omega) y a d h0 h1
    case piece2 =>
      obtain ⟨a, d, rfl⟩ : ∃ a d, x = ix2 a d := ⟨x 0, x 1, by blk_ext []⟩
      rw [pay13]
      exact turned m c t _ _ _ (product m c t _ hx) (fun _ _ => rfl) (fun _ _ => rfl) 640 _ (by omega) (by omega) y a d h0 h1
    case piece3 =>
      obtain ⟨a, d, rfl⟩ : ∃ a d, x = ix2 a d := ⟨x 0, x 1, by blk_ext []⟩
      rw [pay12]
      exact turned m c t _ _ _ (product m c t _ hx) (fun _ _ => rfl) (fun _ _ => rfl) 512 _ (by omega) (by omega) y a d h0 h1
    case piece4 =>
      obtain ⟨a, d, rfl⟩ : ∃ a d, x = ix2 a d := ⟨x 0, x 1, by blk_ext []⟩
      rw [pay11]
      exact turned m c t _ _ _ (product m c t _ hx) (fun _ _ => rfl) (fun _ _ => rfl) 384 _ (by omega) (by omega) y a d h0 h1
    case piece5 =>
      obtain ⟨a, d, rfl⟩ : ∃ a d, x = ix2 a d := ⟨x 0, x 1, by blk_ext []⟩
      rw [pay10]
      exact turned m c t _ _ _ (product m c t _ hx) (fun _ _ => rfl) (fun _ _ => rfl) 256 _ (by omega) (by omega) y a d h0 h1
    case piece6 =>
      obtain ⟨a, d, rfl⟩ : ∃ a d, x = ix2 a d := ⟨x 0, x 1, by blk_ext []⟩
      rw [pay9]
      exact turned m c t _ _ _ (product m c t _ hx) (fun _ _ => rfl) (fun _ _ => rfl) 128 _ (by omega) (by omega) y a d h0 h1
    case piece7 =>
      obtain ⟨a, d, rfl⟩ : ∃ a d, x = ix2 a d := ⟨x 0, x 1, by blk_ext []⟩
      rw [pay8]
      exact turned m c t _ _ _ (product m c t _ hx) (fun _ _ => rfl) (fun _ _ => rfl) 0 _ (by omega) (by omega) y a d h0 (h1.trans (Nat.zero_add _).symm)
  · have hx : ∀ a b, (View.whole cc0_scratch0).read (Elt Ideal) ((Memref.isWhole_whole cc0_scratch0).unread
        (outsAt0 m c (t.val - 1) (Nat.lt_of_le_of_lt (Nat.sub_le _ _) t.isLt)).2) (ix2 a b) = norm m c t a b := fun a b => by
      rw [read_unread_whole]; exact before m c t ht a b
    by_cases ht1 : t.val % 9 ≤ 1
    · rw [outsAt0_B m c t ht ht1 (by omega) (by omega)]; dsimp only; frame_out
      canon_tiles x h
      case piece0 =>
        obtain ⟨a, d, rfl⟩ : ∃ a d, x = ix2 a d := ⟨x 0, x 1, by blk_ext []⟩
        rw [pay4]
        exact turned m c t _ _ _ (product m c t _ hx) (fun _ _ => rfl) (fun _ _ => rfl) 896 _ (by omega) (by omega) y a d h0 h1
      case piece1 =>
        obtain ⟨a, d, rfl⟩ : ∃ a d, x = ix2 a d := ⟨x 0, x 1, by blk_ext []⟩
        rw [pay3]
        exact turned m c t _ _ _ (product m c t _ hx) (fun _ _ => rfl) (fun _ _ => rfl) 768 _ (by omega) (by omega) y a d h0 h1
      case piece2 =>
        obtain ⟨a, d, rfl⟩ : ∃ a d, x = ix2 a d := ⟨x 0, x 1, by blk_ext []⟩
        rw [pay13]
        exact turned m c t _ _ _ (product m c t _ hx) (fun _ _ => rfl) (fun _ _ => rfl) 640 _ (by omega) (by omega) y a d h0 h1
      case piece3 =>
        obtain ⟨a, d, rfl⟩ : ∃ a d, x = ix2 a d := ⟨x 0, x 1, by blk_ext []⟩
        rw [pay12]
        exact turned m c t _ _ _ (product m c t _ hx) (fun _ _ => rfl) (fun _ _ => rfl) 512 _ (by omega) (by omega) y a d h0 h1
      case piece4 =>
        obtain ⟨a, d, rfl⟩ : ∃ a d, x = ix2 a d := ⟨x 0, x 1, by blk_ext []⟩
        rw [pay11]
        exact turned m c t _ _ _ (product m c t _ hx) (fun _ _ => rfl) (fun _ _ => rfl) 384 _ (by omega) (by omega) y a d h0 h1
      case piece5 =>
        obtain ⟨a, d, rfl⟩ : ∃ a d, x = ix2 a d := ⟨x 0, x 1, by blk_ext []⟩
        rw [pay10]
        exact turned m c t _ _ _ (product m c t _ hx) (fun _ _ => rfl) (fun _ _ => rfl) 256 _ (by omega) (by omega) y a d h0 h1
      case piece6 =>
        obtain ⟨a, d, rfl⟩ : ∃ a d, x = ix2 a d := ⟨x 0, x 1, by blk_ext []⟩
        rw [pay9]
        exact turned m c t _ _ _ (product m c t _ hx) (fun _ _ => rfl) (fun _ _ => rfl) 128 _ (by omega) (by omega) y a d h0 h1
      case piece7 =>
        obtain ⟨a, d, rfl⟩ : ∃ a d, x = ix2 a d := ⟨x 0, x 1, by blk_ext []⟩
        rw [pay8]
        exact turned m c t _ _ _ (product m c t _ hx) (fun _ _ => rfl) (fun _ _ => rfl) 0 _ (by omega) (by omega) y a d h0 (h1.trans (Nat.zero_add _).symm)
    · by_cases ht2 : t.val % 9 = 2
      · rw [outsAt0_C m c t ht ht1 ht2 (by omega)]; dsimp only; frame_out
        canon_tiles x h using (View.cover_of_tiledBy _ ![512, 128] (by sl_kernel_rfl) y)
        case piece0 =>
          obtain ⟨a, d, rfl⟩ : ∃ a d, x = ix2 a d := ⟨x 0, x 1, by blk_ext []⟩
          rw [pay6]
          exact plain m c t _ hx y a _ h0 h1 (by show 2560 ≤ t.val % 9 * 1024 + (512 + d.val); omega)
        case piece1 =>
          obtain ⟨a, d, rfl⟩ : ∃ a d, x = ix2 a d := ⟨x 0, x 1, by blk_ext []⟩
          rw [pay5]
          exact turned m c t _ _ _ (product m c t _ hx) (fun _ _ => rfl) (fun _ _ => rfl) 384 _ (by omega) (by omega) y a d h0 h1
        case piece2 =>
          obtain ⟨a, d, rfl⟩ : ∃ a d, x = ix2 a d := ⟨x 0, x 1, by blk_ext []⟩
          rw [pay16]
          exact turned m c t _ _ _ (product m c t _ hx) (fun _ _ => rfl) (fun _ _ => rfl) 256 _ (by omega) (by omega) y a d h0 h1
        case piece3 =>
          obtain ⟨a, d, rfl⟩ : ∃ a d, x = ix2 a d := ⟨x 0, x 1, by blk_ext []⟩
          rw [pay15]
          exact turned m c t _ _ _ (product m c t _ hx) (fun _ _ => rfl) (fun _ _ => rfl) 128 _ (by omega) (by omega) y a d h0 h1
        case piece4 =>
          obtain ⟨a, d, rfl⟩ : ∃ a d, x = ix2 a d := ⟨x 0, x 1, by blk_ext []⟩
          rw [pay14]
          exact turned m c t _ _ _ (product m c t _ hx) (fun _ _ => rfl) (fun _ _ => rfl) 0 _ (by omega) (by omega) y a d h0 (h1.trans (Nat.zero_add _).symm)
      · rw [outsAt0_D m c t ht ht1 ht2 (by omega)]; dsimp only; frame_out
        obtain ⟨a, b, rfl⟩ : ∃ a b, y = ix2 a b := ⟨y 0, y 1, by blk_ext []⟩
        rw [pay7]
        exact plain m c t _ hx _ a b rfl rfl (by omega)

end Cert.Calls.InProj

end
-- ==== Proof.Calls.Claim2.lean ====
/- The claims about the input projection with rotary positions. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Calls.InProj
public import Idealize.ShloMosaic.Lib.Claim
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

namespace Cert.Calls.Claim2

/-- The kernel runs and leaves its arguments unchanged. -/
theorem frame_P : Cert.quiescent_Kernel2 := fun m ρ _ => Cert.Kernel2.Gen.frame m ρ

/-- So does the kernel over the extended reals. -/
theorem frame_PI : Cert.quiescent_Kernel2Ideal := fun m ρ _ => Cert.Kernel2Ideal.Gen.frame m ρ

/-- The reference runs and leaves its arguments unchanged. -/
theorem frame_RI : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealized kernel is the kernel: no operation was rewritten. -/
theorem preserves : Cert.preserves_Kernel2_Kernel2Ideal := trivial

/-- The kernel and the reference compute the same over the extended reals. -/
theorem algebraic : Cert.algebraic_Kernel2Ideal_Reference2Ideal := by
  pair_intro
  · run_from Cert.Kernel2Ideal.Value.run_blocks m g
  · refine (θ_run _ _ _).mono (fun r h c => ?_) (Cert.Reference2Ideal.Value.run (F := Ideal) m' g')
    have hr := (h c).1
    rw [Cert.Reference2Ideal.Read.val_main_v82_eq] at hr
    refine ⟨hr.trans ?_, (h c).2⟩
    rw [(hagree c).1, (hagree c).2.1, (hagree c).2.2]
    exact (Cert.Calls.InProj.final m c).symm

end Cert.Calls.Claim2

end
-- ==== Proof.Calls.OutProj.lean ====
/- The output projection: the root-mean-square norm of the two heads' halves, kept over the column blocks, then the
   projection and the residual. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack
public import Idealize.ShloMosaic.Lib.Pointwise
public import proofs.«01_k».proof.Proof.Calls.Norm

@[expose] public section

set_option maxRecDepth 16384

noncomputable section

open Idealize.ShloMosaic Idealize.ShloMosaic.TcCoe Idealize.SL.Sem
open Idealize.ShloMosaic.Pipeline (Dat)

namespace Cert.Calls.OutProj

open Cert.Kernel3Ideal Cert.Kernel3Ideal.Gen Cert.Reference3Ideal.Read

variable (m : (ℓ : Loc nD τ sig) → Buf (Elt Ideal) ℓ)

/-- Each window's block index at each grid point: the row block is the point's quotient by eight, the column block its
    remainder. -/
theorem idx : ∀ t : Fin cfg0.N, win0_0.index t = ![t.val / 8, 0]
    ∧ win0_1.index t = ![t.val / 8, 0]
    ∧ win0_2.index t = ![0, 0]
    ∧ win0_3.index t = ![0, 0]
    ∧ win0_4.index t = ![0, t.val % 8]
    ∧ win0_5.index t = ![t.val / 8, t.val % 8]
    ∧ win0_6.index t = ![t.val / 8, t.val % 8] :=
  (by decide +kernel : ∀ t : Fin grid0.N, _)

/-- The first normalised half of the block at an index. -/
theorem payLeft (x : Vec Ideal S1024x2048 .bf16) (w : Vec Ideal S1x2048 .f32) (a : Fin 1024) (b : Fin 2048) :
    k0_pay2 x w (ix2 a b) = rms 0x45000000#32 (fun k => x (ix2 a k)) (fun k => w (ix2 0 k)) b := by
  pointwise [k0_pay2, rms]

/-- The second normalised half of the block at an index. -/
theorem payRight (x : Vec Ideal S1024x2048 .bf16) (w : Vec Ideal S1x2048 .f32) (a : Fin 1024) (b : Fin 2048) :
    k0_pay3 x w (ix2 a b) = rms 0x45000000#32 (fun k => x (ix2 a k)) (fun k => w (ix2 0 k)) b := by
  pointwise [k0_pay3, rms]

/-- The projected block at an index: the row of the normalised block times the column of the weights, and the residual. -/
theorem payDot (x : Vec Ideal S1024x4096 .bf16) (w : Vec Ideal S4096x512 .bf16) (r : Vec Ideal S1024x512 .f32)
    (a : Fin 1024) (b : Fin 512) :
    k0_pay1 x w r (ix2 a b) = (∑ k : Fin 4096, x (ix2 a k) * w (ix2 k b)) + r (ix2 a b) := by
  pointwise [k0_pay1]

/-- A row of an attention output, and the gain, as functions of the column. -/
abbrev at2 (x : (⟨Cert.Reference3Ideal.S8192x2048, .bf16⟩ : BufTy).Contents (Elt Ideal)) (a : Fin 8192) (k : Fin 2048) : EReal := x (ix2 a k)
abbrev at1 (x : (⟨Cert.Reference3Ideal.S2048, .f32⟩ : BufTy).Contents (Elt Ideal)) (k : Fin 2048) : EReal := x (ix1 k)

/-- The two normalised halves of a row, side by side. -/
def halves (x0 x1 : (⟨Cert.Reference3Ideal.S8192x2048, .bf16⟩ : BufTy).Contents (Elt Ideal))
    (g0 g1 : (⟨Cert.Reference3Ideal.S2048, .f32⟩ : BufTy).Contents (Elt Ideal)) (a : Fin 8192) (b : Fin 4096) : EReal :=
  if h : b.val < 2048 then rms 0x45000000#32 (at2 x0 a) (at1 g0) ⟨b.val, h⟩
  else rms 0x45000000#32 (at2 x1 a) (at1 g1) ⟨b.val - 2048, by omega⟩

/-- A row times a column over the two halves is the sum of the halves' products. -/
theorem halves_sum (x0 x1 : (⟨Cert.Reference3Ideal.S8192x2048, .bf16⟩ : BufTy).Contents (Elt Ideal))
    (g0 g1 : (⟨Cert.Reference3Ideal.S2048, .f32⟩ : BufTy).Contents (Elt Ideal)) (a : Fin 8192) (w : Fin 4096 → EReal) :
    ∑ k : Fin 4096, halves x0 x1 g0 g1 a k * w k
      = (∑ k : Fin 2048, rms 0x45000000#32 (at2 x0 a) (at1 g0) k * w ⟨k.val, by omega⟩)
        + ∑ k : Fin 2048, rms 0x45000000#32 (at2 x1 a) (at1 g1) k * w ⟨2048 + k.val, by omega⟩ := by
  rw [Fin.sum_univ_two_halves 2048 2048 rfl]
  refine congrArg₂ (· + ·) (Finset.sum_congr rfl fun k _ => ?_) (Finset.sum_congr rfl fun k _ => ?_)
  · unfold halves; rw [dif_pos (show (k.val : ℕ) < 2048 from k.isLt)]
  · unfold halves; rw [dif_neg (show ¬ (2048 + k.val : ℕ) < 2048 by omega)]
    simp only [Nat.add_sub_cancel_left]

/-- The reference at an index. -/
theorem reference (x0 x1 : (⟨Cert.Reference3Ideal.S8192x2048, .bf16⟩ : BufTy).Contents (Elt Ideal))
    (g0 g1 : (⟨Cert.Reference3Ideal.S2048, .f32⟩ : BufTy).Contents (Elt Ideal))
    (w : (⟨Cert.Reference3Ideal.S4096x4096, .f32⟩ : BufTy).Contents (Elt Ideal))
    (r : (⟨Cert.Reference3Ideal.S4x2048x4096, .f32⟩ : BufTy).Contents (Elt Ideal)) (a : Fin 8192) (b : Fin 4096) :
    val_main_v33 x0 x1 g0 g1 w r (ix2 a b)
      = (∑ k : Fin 2048, rms 0x45000000#32 (at2 x0 a) (at1 g0) k * w (ix2 ⟨k.val, by omega⟩ b))
        + (∑ k : Fin 2048, rms 0x45000000#32 (at2 x1 a) (at1 g1) k * w (ix2 ⟨2048 + k.val, by omega⟩ b))
        + r (ix3 ⟨a.val / 2048, by omega⟩ ⟨a.val % 2048, by omega⟩ b) := by
  pointwise [rms, val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, val_main_cst_2, val_main_v18, val_main_v19, val_main_cst_3, val_main_v20, val_main_v21, val_main_cst_4, val_main_v22, val_main_v23, val_main_v24, val_main_v25, val_main_v26, val_main_v27, val_main_v28, val_main_v29, val_main_v30, val_main_v31, val_main_v32, val_main_v33]
  exact add_comm _ _

/-- Row `a` of the block of point `t` as a row of the whole array, and column `b`. -/
abbrev row (t : Fin cfg0.N) (a : Fin 1024) : Fin 8192 := ⟨t.val / 8 * 1024 + a.val, by have := t.isLt; have : cfg0.N = 64 := rfl; omega⟩
abbrev col (t : Fin cfg0.N) (b : Fin 512) : Fin 4096 := ⟨t.val % 8 * 512 + b.val, by omega⟩

/-- The first attention output's block at an index. -/
theorem read0 (c : Dev nD) (t : Fin cfg0.N) (a : Fin 1024) (b : Fin 2048) :
    iblk m c 0 t (ix2 a b) = at2 (m ((c : Thread nD τ).loc main_arg0)) (row t a) b := by
  blk_ext [iblk, V, idx t]

/-- The second attention output's block at an index. -/
theorem read1 (c : Dev nD) (t : Fin cfg0.N) (a : Fin 1024) (b : Fin 2048) :
    iblk m c 1 t (ix2 a b) = at2 (m ((c : Thread nD τ).loc main_arg1)) (row t a) b := by
  blk_ext [iblk, V, idx t]

/-- The first gain's row at an index. -/
theorem read2 (c : Dev nD) (t : Fin cfg0.N) (b : Fin 2048) :
    iblk m c 2 t (ix2 0 b) = at1 (m ((c : Thread nD τ).loc main_arg2)) b := by
  blk_simp [iblk, idx t]
  entry_read
  pointwise
  blk_ext [idx t]

/-- The second gain's row at an index. -/
theorem read3 (c : Dev nD) (t : Fin cfg0.N) (b : Fin 2048) :
    iblk m c 3 t (ix2 0 b) = at1 (m ((c : Thread nD τ).loc main_arg3)) b := by
  blk_simp [iblk, idx t]
  entry_read
  pointwise
  blk_ext [idx t]

/-- The weights' block at an index. -/
theorem read4 (c : Dev nD) (t : Fin cfg0.N) (a : Fin 4096) (b : Fin 512) :
    iblk m c 4 t (ix2 a b) = m ((c : Thread nD τ).loc main_arg4) (ix2 a (col t b)) := by
  blk_simp [iblk, idx t]
  entry_read
  pointwise
  blk_ext [idx t]

/-- The residual's block at an index. -/
theorem read5 (c : Dev nD) (t : Fin cfg0.N) (a : Fin 1024) (b : Fin 512) :
    iblk m c 5 t (ix2 a b) = m ((c : Thread nD τ).loc main_arg5)
      (ix3 ⟨(row t a).val / 2048, by omega⟩ ⟨(row t a).val % 2048, by omega⟩ (col t b)) := by
  have e : ((cfg0.win 5).blk t).view.emb (ix2 a b) = ix2 (row t a) (col t b) := by
    blk_ext [idx t]
  show V m c main_v1 (((cfg0.win 5).blk t).view.emb (ix2 a b)) = _
  rw [e]
  entry_read
  pointwise

/-- The normalised row of the block of point `t`. -/
abbrev normed (c : Dev nD) (t : Fin cfg0.N) (a : Fin 1024) (b : Fin 4096) : EReal :=
  halves (m ((c : Thread nD τ).loc main_arg0)) (m ((c : Thread nD τ).loc main_arg1)) (m ((c : Thread nD τ).loc main_arg2))
    (m ((c : Thread nD τ).loc main_arg3)) (row t a) b

/-- The first stored half at an index is the normalised row. -/
theorem pieceLeft (c : Dev nD) (t : Fin cfg0.N) (x : S1024x2048.Idx) (a : Fin 1024) (b : Fin 4096) (h0 : a.val = (x 0).val)
    (h1 : b.val = (x 1).val) : k0_pay2 (iblk m c 0 t) (iblk m c 2 t) x = normed m c t a b := by
  obtain ⟨p, q, rfl⟩ : ∃ p q, x = ix2 p q := ⟨x 0, x 1, by blk_ext []⟩
  obtain rfl : a = p := Fin.ext h0
  have h1 : b.val = q.val := h1
  have hb : b.val < 2048 := by omega
  have hq : q = ⟨b.val, hb⟩ := Fin.ext h1.symm
  rw [hq]
  rw [payLeft]; simp only [read0, read2]
  unfold normed halves
  rw [dif_pos (show b.val < 2048 by omega)]

/-- The second stored half at an index is the normalised row. -/
theorem pieceRight (c : Dev nD) (t : Fin cfg0.N) (x : S1024x2048.Idx) (a : Fin 1024) (b : Fin 4096) (h0 : a.val = (x 0).val)
    (h1 : b.val = 2048 + (x 1).val) : k0_pay3 (iblk m c 1 t) (iblk m c 3 t) x = normed m c t a b := by
  obtain ⟨p, q, rfl⟩ : ∃ p q, x = ix2 p q := ⟨x 0, x 1, by blk_ext []⟩
  obtain rfl : a = p := Fin.ext h0
  have h1 : b.val = 2048 + q.val := h1
  have hb : b.val - 2048 < 2048 := by omega
  have hq : q = ⟨b.val - 2048, hb⟩ := Fin.ext (by show q.val = b.val - 2048; omega)
  rw [hq]
  rw [payRight]; simp only [read1, read3]
  unfold normed halves
  rw [dif_neg (show ¬ b.val < 2048 by omega)]

/-- The two stored halves, read back at an index, are the normalised row. -/
theorem carriedA (c : Dev nD) (t : Fin cfg0.N) (h : t.val % 8 = 0) (a : Fin 1024) (b : Fin 4096) :
    (outsAt0 m c t.val t.isLt).2 (ix2 a b) = normed m c t a b := by
  rw [outsAt0_A m c t h]; dsimp only; frame_out
  canon_tiles x h
  · exact pieceRight m c t x a b h0 h1
  · exact pieceLeft m c t x a b h0 h1

/-- The scratch after every point holds the normalised row block of the point. -/
theorem carried (c : Dev nD) : ∀ (n : ℕ) (hn : n < cfg0.N) (a : Fin 1024) (b : Fin 4096),
    (outsAt0 m c n hn).2 (ix2 a b) = normed m c ⟨n, hn⟩ a b := by
  intro n
  induction n using Nat.strong_induction_on with
  | _ n ih =>
    intro hn a b
    by_cases h : n % 8 = 0
    · exact carriedA m c ⟨n, hn⟩ h a b
    · rw [outsAt0_B m c ⟨n, hn⟩ h]; dsimp only; unfold sout0_B_0
      rw [ih (n - 1) (by omega)]
      have e : row ⟨n - 1, Nat.lt_of_le_of_lt (Nat.sub_le _ _) hn⟩ a = row ⟨n, hn⟩ a := by
        apply Fin.ext; show (n - 1) / 8 * 1024 + a.val = n / 8 * 1024 + a.val; omega
      unfold normed
      rw [e]

/-- The projection of the normalised block is the reference's element. -/
theorem point (c : Dev nD) (t : Fin cfg0.N) (xn : Vec Ideal S1024x4096 .bf16)
    (hx : ∀ a b, xn (ix2 a b) = normed m c t a b) (y : S1024x512.Idx) :
    k0_pay1 xn (iblk m c 4 t) (iblk m c 5 t) y
      = val_main_v33 (m ((c : Thread nD τ).loc main_arg0)) (m ((c : Thread nD τ).loc main_arg1)) (m ((c : Thread nD τ).loc
        main_arg2)) (m ((c : Thread nD τ).loc main_arg3)) (m ((c : Thread nD τ).loc main_arg4))
        (m ((c : Thread nD τ).loc main_arg5)) (((cfg0.win 6).blk t).view.emb y) := by
  obtain ⟨a, b, rfl⟩ : ∃ a b, y = ix2 a b := ⟨y 0, y 1, by blk_ext []⟩
  have e : ((cfg0.win 6).blk t).view.emb (ix2 a b) = ix2 (row t a) (col t b) := by
    blk_ext [idx t]
  rw [e, payDot, reference]; simp only [hx, read4, read5]
  rw [halves_sum]

/-- The projected array after the run is the reference's. -/
theorem final (c : Dev nD) : (dats m 0 c).arrAt 6 (cfgs 0).N
    = val_main_v33 (m ((c : Thread nD τ).loc main_arg0)) (m ((c : Thread nD τ).loc main_arg1)) (m ((c : Thread nD τ).loc
        main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp; rw [after0_6]
  by_cases h : t.val % 8 = 0
  · rw [outsAt0_A m c t h]; dsimp only; frame_out
    refine point m c t _ (fun a b => ?_) y
    rw [View.readCov_eq_canon']
    have e : (Rect.unit (s := S1024x4096) ![0, 0] ![1024, 4096] inb_S1024x4096_S1024x4096_0_0).toLoadRect.idx (ix2 a b) = ix2 a b := by
      funext i
      apply Fin.ext
      rw [Rect.idx_unit_val]
      fin_cases i
      · exact Nat.zero_add _
      · exact Nat.zero_add _
    dsimp only
    rw [e]
    canon_tiles x h
    · exact pieceRight m c t x a b h0 h1
    · exact pieceLeft m c t x a b h0 h1
  · rw [outsAt0_B m c t h]; dsimp only; frame_out
    refine point m c t _ (fun a b => ?_) y
    rw [read_unread_whole, carried m c]
    have e : row ⟨t.val - 1, Nat.lt_of_le_of_lt (Nat.sub_le _ _) t.isLt⟩ a = row t a := by
      apply Fin.ext; show (t.val - 1) / 8 * 1024 + a.val = t.val / 8 * 1024 + a.val; omega
    unfold normed
    rw [e]

end Cert.Calls.OutProj

end
-- ==== Proof.Calls.Claim3.lean ====
/- The claims about the output projection. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Calls.OutProj
public import Idealize.ShloMosaic.Lib.Claim
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

namespace Cert.Calls.Claim3

/-- The kernel runs and leaves its arguments unchanged. -/
theorem frame_P : Cert.quiescent_Kernel3 := fun m ρ _ => Cert.Kernel3.Gen.frame m ρ

/-- So does the kernel over the extended reals. -/
theorem frame_PI : Cert.quiescent_Kernel3Ideal := fun m ρ _ => Cert.Kernel3Ideal.Gen.frame m ρ

/-- The reference runs and leaves its arguments unchanged. -/
theorem frame_RI : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealized kernel is the kernel: no operation was rewritten. -/
theorem preserves : Cert.preserves_Kernel3_Kernel3Ideal := trivial

/-- The kernel and the reference compute the same over the extended reals. -/
theorem algebraic : Cert.algebraic_Kernel3Ideal_Reference3Ideal := by
  pair_intro
  · run_from Cert.Kernel3Ideal.Value.run_blocks m g
  · hlo_run
    exact (Cert.Reference3Ideal.Read.val_main_v33_eq _ _ _ _ _ _).trans (Cert.Calls.OutProj.final m c).symm

end Cert.Calls.Claim3

end
-- ==== Proof.Calls.MemKv.lean ====
/- The memory's keys and values: the root-mean-square norm, kept over the column blocks, then the projection. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Pointwise
public import proofs.«01_k».proof.Proof.Calls.Norm

@[expose] public section

set_option maxRecDepth 16384

noncomputable section

open Idealize.ShloMosaic Idealize.ShloMosaic.TcCoe Idealize.SL.Sem
open Idealize.ShloMosaic.Pipeline (Dat)

namespace Cert.Calls.MemKv

open Cert.Kernel4Ideal Cert.Kernel4Ideal.Gen Cert.Reference4Ideal.Read

variable (m : (ℓ : Loc nD τ sig) → Buf (Elt Ideal) ℓ)

/-- Each window's block index at each grid point: the row block is the point's quotient by four, the column block its
    remainder. -/
theorem idx : ∀ t : Fin cfg0.N, win0_0.index t = ![t.val / 4, 0]
    ∧ win0_1.index t = ![0, 0]
    ∧ win0_2.index t = ![0, t.val % 4]
    ∧ win0_3.index t = ![t.val / 4, t.val % 4] :=
  (by decide +kernel : ∀ t : Fin grid0.N, _)

/-- The normalised block at an index. -/
theorem payNorm (x : Vec Ideal S512x4096 .f32) (w : Vec Ideal S1x4096 .f32) (a : Fin 512) (b : Fin 4096) :
    k0_pay1 x w (ix2 a b) = rms 0x45800000#32 (fun k => x (ix2 a k)) (fun k => w (ix2 0 k)) b := by
  pointwise [k0_pay1, rms]

/-- The projected block at an index: the row of the normalised block times the column of the weights. -/
theorem payDot (x : Vec Ideal S512x4096 .bf16) (w : Vec Ideal S4096x512 .bf16) (a b : Fin 512) :
    k0_pay2 x w (ix2 a b) = ∑ k : Fin 4096, x (ix2 a k) * w (ix2 k b) := by
  pointwise [k0_pay2]

/-- The row of the batch that row `a` of the flattened memory is. -/
abbrev at3 (x : (⟨Cert.Reference4Ideal.S4x256x4096, .f32⟩ : BufTy).Contents (Elt Ideal)) (a : Fin 1024) (k : Fin 4096) : EReal :=
  x (ix3 ⟨a.val / 256, by omega⟩ ⟨a.val % 256, by omega⟩ k)

/-- The weights side by side: the keys' columns, then the values'. -/
def both (wk wv : (⟨Cert.Reference4Ideal.S4096x1024, .f32⟩ : BufTy).Contents (Elt Ideal)) (k : Fin 4096) (b : Fin 2048) : EReal :=
  if h : b.val < 1024 then wk (ix2 k ⟨b.val, h⟩) else wv (ix2 k ⟨b.val - 1024, by omega⟩)

/-- The reference at an index. -/
theorem reference (x : (⟨Cert.Reference4Ideal.S4x256x4096, .f32⟩ : BufTy).Contents (Elt Ideal))
    (g : (⟨Cert.Reference4Ideal.S4096, .f32⟩ : BufTy).Contents (Elt Ideal))
    (wk wv : (⟨Cert.Reference4Ideal.S4096x1024, .f32⟩ : BufTy).Contents (Elt Ideal)) (a : Fin 1024) (b : Fin 2048) :
    val_main_v17 x g wk wv (ix2 a b)
      = ∑ k : Fin 4096, rms 0x45800000#32 (at3 x a) (fun k => g (ix1 k)) k * both wk wv k b := by
  unfold both
  by_cases h : b.val < 1024
  · simp only [h, dite_true]
    pointwise [rms, val_main_v17, val_main_v16, val_main_v15, val_main_v14, val_main_v13, val_main_v12, val_main_v11, val_main_v10, val_main_v9, val_main_v8, val_main_v7,
    val_main_v6, val_main_cst_1, val_main_v5, val_main_v4, val_main_cst_0, val_main_v3, val_main_v2, val_main_cst, val_main_v1, val_main_v0, h]
  · simp only [h, dite_false]
    pointwise [rms, val_main_v17, val_main_v16, val_main_v15, val_main_v14, val_main_v13, val_main_v12, val_main_v11, val_main_v10, val_main_v9, val_main_v8, val_main_v7,
    val_main_v6, val_main_cst_1, val_main_v5, val_main_v4, val_main_cst_0, val_main_v3, val_main_v2, val_main_cst, val_main_v1, val_main_v0, h]

/-- Row `a` of the block of point `t` as a row of the whole array, and column `b`. -/
abbrev row (t : Fin cfg0.N) (a : Fin 512) : Fin 1024 := ⟨t.val / 4 * 512 + a.val, by have := t.isLt; have : cfg0.N = 8 := rfl; omega⟩
abbrev col (t : Fin cfg0.N) (b : Fin 512) : Fin 2048 := ⟨t.val % 4 * 512 + b.val, by omega⟩

/-- The memory's block at an index. -/
theorem read0 (c : Dev nD) (t : Fin cfg0.N) (a : Fin 512) (b : Fin 4096) :
    iblk m c 0 t (ix2 a b) = at3 (m ((c : Thread nD τ).loc main_arg0)) (row t a) b := by
  blk_simp [iblk, idx t]
  entry_read
  pointwise
  blk_ext [idx t]

/-- The gain's row at an index. -/
theorem read1 (c : Dev nD) (t : Fin cfg0.N) (b : Fin 4096) :
    iblk m c 1 t (ix2 0 b) = m ((c : Thread nD τ).loc main_arg1) (ix1 b) := by
  blk_simp [iblk, idx t]
  entry_read
  pointwise
  blk_ext [idx t]

/-- The weights' block at an index. -/
theorem read2 (c : Dev nD) (t : Fin cfg0.N) (a : Fin 4096) (b : Fin 512) :
    iblk m c 2 t (ix2 a b) = both (m ((c : Thread nD τ).loc main_arg2)) (m ((c : Thread nD τ).loc main_arg3)) a (col t b) := by
  have e : ((cfg0.win 2).blk t).view.emb (ix2 a b) = ix2 a (col t b) := by
    blk_ext [idx t]
  show V m c main_v1 (((cfg0.win 2).blk t).view.emb (ix2 a b)) = _
  rw [e]
  entry_read
  pointwise [both]

/-- The scratch after every point holds the normalised row block of the point. -/
theorem carried (c : Dev nD) : ∀ (n : ℕ) (hn : n < cfg0.N) (a : Fin 512) (b : Fin 4096), (outsAt0 m c n hn).2 (ix2 a b)
      = rms 0x45800000#32 (at3 (m ((c : Thread nD τ).loc main_arg0)) (row ⟨n, hn⟩ a))
          (fun k => m ((c : Thread nD τ).loc main_arg1) (ix1 k)) b := by
  intro n
  induction n using Nat.strong_induction_on with
  | _ n ih =>
    intro hn a b
    by_cases h : n % 4 = 0
    · rw [outsAt0_A m c ⟨n, hn⟩ h]; dsimp only; frame_out
      rw [payNorm]; simp only [read0, read1]
    · rw [outsAt0_B m c ⟨n, hn⟩ h]; dsimp only; unfold sout0_B_0
      rw [ih (n - 1) (by omega)]
      have e : row ⟨n - 1, Nat.lt_of_le_of_lt (Nat.sub_le _ _) hn⟩ a = row ⟨n, hn⟩ a := by
        apply Fin.ext; show (n - 1) / 4 * 512 + a.val = n / 4 * 512 + a.val; omega
      rw [e]

/-- The projection of the normalised block is the reference's element. -/
theorem point (c : Dev nD) (t : Fin cfg0.N) (xn : Vec Ideal S512x4096 .bf16)
    (hx : ∀ a b, xn (ix2 a b) = rms 0x45800000#32 (at3 (m ((c : Thread nD τ).loc main_arg0)) (row t a))
          (fun k => m ((c : Thread nD τ).loc main_arg1) (ix1 k)) b) (y : S512x512.Idx) :
    k0_pay2 xn (iblk m c 2 t) y
      = val_main_v17 (m ((c : Thread nD τ).loc main_arg0)) (m ((c : Thread nD τ).loc main_arg1)) (m ((c : Thread nD τ).loc
        main_arg2)) (m ((c : Thread nD τ).loc main_arg3)) (((cfg0.win 3).blk t).view.emb y) := by
  obtain ⟨a, b, rfl⟩ : ∃ a b, y = ix2 a b := ⟨y 0, y 1, by blk_ext []⟩
  have e : ((cfg0.win 3).blk t).view.emb (ix2 a b) = ix2 (row t a) (col t b) := by
    blk_ext [idx t]
  rw [e, payDot, reference]; simp only [hx, read2]

/-- The keys' and values' array after the run is the reference's. -/
theorem final (c : Dev nD) : (dats m 0 c).arrAt 3 (cfgs 0).N
    = val_main_v17 (m ((c : Thread nD τ).loc main_arg0)) (m ((c : Thread nD τ).loc main_arg1)) (m ((c : Thread nD τ).loc main_arg2))
      (m ((c : Thread nD τ).loc main_arg3)) := by
  refine (dats m 0 c).arrAt_eq_of_covers 3 _ (by decide +kernel) fun t _ y => ?_
  blk_simp; rw [after0_3]
  by_cases h : t.val % 4 = 0
  · rw [outsAt0_A m c t h]; dsimp only; frame_out
    refine point m c t _ (fun a b => ?_) y
    rw [payNorm]; simp only [read0, read1]
  · rw [outsAt0_B m c t h]; dsimp only; frame_out
    refine point m c t _ (fun a b => ?_) y
    rw [read_unread_whole, carried m c]
    have e : row ⟨t.val - 1, Nat.lt_of_le_of_lt (Nat.sub_le _ _) t.isLt⟩ a = row t a := by
      apply Fin.ext; show (t.val - 1) / 4 * 512 + a.val = t.val / 4 * 512 + a.val; omega
    rw [e]

end Cert.Calls.MemKv

end
-- ==== Proof.Calls.Claim4.lean ====
/- The claims about the projection of the memory. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Calls.MemKv
public import Idealize.ShloMosaic.Lib.Claim
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

namespace Cert.Calls.Claim4

/-- The kernel runs and leaves its arguments unchanged. -/
theorem frame_P : Cert.quiescent_Kernel4 := fun m ρ _ => Cert.Kernel4.Gen.frame m ρ

/-- So does the kernel over the extended reals. -/
theorem frame_PI : Cert.quiescent_Kernel4Ideal := fun m ρ _ => Cert.Kernel4Ideal.Gen.frame m ρ

/-- The reference runs and leaves its arguments unchanged. -/
theorem frame_RI : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The idealized kernel is the kernel: no operation was rewritten. -/
theorem preserves : Cert.preserves_Kernel4_Kernel4Ideal := trivial

/-- The kernel and the reference compute the same over the extended reals. -/
theorem algebraic : Cert.algebraic_Kernel4Ideal_Reference4Ideal := by
  pair_intro
  · run_from Cert.Kernel4Ideal.Value.run_blocks m g
  · hlo_run
    rw [(hagree c).2.2.2]
    exact (Cert.Reference4Ideal.Read.val_main_v17_eq _ _ _ _).trans (Cert.Calls.MemKv.final m c).symm

end Cert.Calls.Claim4

end
-- ==== Proof.Calls.MemAtt.lean ====
/- The softmax of a row of scores without a sink, and the weighted mean of the values under it. -/
module

public import proofs.«01_k».proof.Proof.Calls.Band
public import proofs.«01_k».proof.Proof.Calls.Norm

@[expose] public section

noncomputable section

open Idealize.ShloMosaic

namespace Cert.Calls

variable {ι : Type} [Fintype ι]

/-- The sum of the exponentials of the scores, the largest score taken off. -/
def total (s : ι → EReal) : EReal := ∑ k, Ideal.exp (s k - top s)

/-- The weight of one score: its exponential over the sum. -/
def share (s : ι → EReal) (k : ι) : EReal := Ideal.div (Ideal.exp (s k - top s)) (total s)

/-- The same as the exponential times the reciprocal of the sum. -/
def shareInv (s : ι → EReal) (k : ι) : EReal := Ideal.exp (s k - top s) * Ideal.div 1 (total s)

/-- The two agree where the sum is not zero. -/
theorem shareInv_eq (s : ι → EReal) (k : ι) (h : total s ≠ 0) : shareInv s k = share s k := by
  unfold shareInv share
  exact Ideal.mul_one_div h

/-- The sum is not zero when the scores are real numbers and there is one. -/
theorem total_ne_zero (s : ι → EReal) (i : ι) (hs : ∀ k, Real? (s k)) : total s ≠ 0 := by
  have hle : s i ≤ top s := (Finset.le_fold_max _).mpr (Or.inr ⟨i, Finset.mem_univ _, le_refl _⟩)
  have ht : Real? (top s) :=
    ⟨top_ne_top s fun k => (hs k).1, ne_of_gt (lt_of_lt_of_le (bot_lt_iff_ne_bot.mpr (hs i).2) hle)⟩
  have h : 0 < Ideal.exp (s i - top s) := by
    refine exp_pos ?_
    obtain ⟨a, ha⟩ := (hs i).coe
    obtain ⟨b, hb⟩ := ht.coe
    rw [hb, ha]
    exact (EReal.coe_sub a b) ▸ real?_coe (a - b)
  unfold total
  exact ne_of_gt (lt_of_lt_of_le h (Finset.single_le_sum (f := fun k => Ideal.exp (s k - top s)) (fun k _ => exp_nonneg _) (Finset.mem_univ i)))

/-- A square is nowhere negative. -/
theorem sq_nonneg' (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- The literal of the row's length is 4096. -/
theorem ofBits_4096 : Ideal.ofBits .f32 0x45800000#32 = ((4096 : ℝ) : EReal) := by
  simp [Ideal.ofBits, Ideal.ieee, -EReal.coe_mul]
  norm_num

/-- The small constant is a positive real number. -/
theorem ofBits_small : ∃ e : ℝ, 0 < e ∧ Ideal.ofBits .f32 0x358637BD#32 = (e : EReal) := by
  refine ⟨_, ?_, by simp [Ideal.ofBits, Ideal.ieee, -EReal.coe_mul]; rfl⟩
  norm_num

/-- A normalised row times a real gain is real, whatever the row: an infinite entry makes the reciprocal root zero. -/
theorem rms_real {n : ℕ} (f g : Fin n → EReal) (k : Fin n) (hg : Real? (g k)) : Real? (rms 0x45800000#32 f g k) := by
  unfold rms
  refine Real?.mul ?_ hg
  obtain ⟨e, he, hε⟩ := ofBits_small
  rw [ofBits_4096, hε]
  have h0 : 0 ≤ ∑ j, f j * f j := Finset.sum_nonneg fun j _ => sq_nonneg' _
  have h4 : ((4096 : ℝ) : EReal) ≠ 0 := by exact_mod_cast (by norm_num : (4096 : ℝ) ≠ 0)
  unfold Ideal.div
  rw [if_neg h4, ← EReal.coe_inv]
  by_cases h : ∑ j, f j * f j = ⊤
  · rw [h, EReal.top_mul_coe_of_pos (by norm_num), EReal.top_add_coe, Ideal.rsqrt_top, mul_zero]
    exact real?_coe 0
  · have hk : Real? (f k) := by
      have hle : f k * f k ≤ ∑ j, f j * f j :=
        Finset.single_le_sum (f := fun j => f j * f j) (fun j _ => sq_nonneg' _) (Finset.mem_univ k)
      constructor
      · intro hx; rw [hx, EReal.top_mul_top] at hle; exact h (top_le_iff.mp hle)
      · intro hx; rw [hx, EReal.bot_mul_bot] at hle; exact h (top_le_iff.mp hle)
    refine hk.mul ?_
    have hr : Real? (∑ j, f j * f j) := ⟨h, ne_of_gt (lt_of_lt_of_le EReal.bot_lt_zero h0)⟩
    obtain ⟨r, hr⟩ := hr.coe
    rw [hr] at h0 ⊢
    have hr0 : 0 ≤ r := EReal.coe_nonneg.mp h0
    rw [← EReal.coe_mul, ← EReal.coe_add, Ideal.rsqrt_coe]
    have hp : 0 < r * (4096 : ℝ)⁻¹ + e := by positivity
    rw [if_neg (not_lt.mpr hp.le), if_neg hp.ne']
    exact real?_coe _

/-- A score: the row of the query times the row of the key, over sixteen. -/
def memScore (q k : Fin 256 → EReal) : EReal := (∑ d, q d * k d) * Ideal.ofBits .f32 0x3D800000#32

/-- It is real when the rows are. -/
theorem memScore_real (q k : Fin 256 → EReal) (hq : ∀ d, Real? (q d)) (hk : ∀ d, Real? (k d)) : Real? (memScore q k) := by
  refine Real?.mul (Real?.sum _ _ fun d => (hq d).mul (hk d)) ?_
  have h : Ideal.ofBits .f32 0x3D800000#32 = (((1 / 16 : ℝ)) : EReal) := by
    simp [Ideal.ofBits, Ideal.ieee, -EReal.coe_mul]
    norm_num
  rw [h]
  exact real?_coe _

end Cert.Calls

end
-- ==== Proof.Calls.MemRef.lean ====
/- Cross-attention over the memory: the reference at an index. -/
module

public import proofs.«01_k».proof.Proof.Gen.Reference5Ideal.Read
public import Idealize.ShloMosaic.Lib.Pointwise
public import proofs.«01_k».proof.Proof.Calls.MemAtt

@[expose] public section

set_option maxRecDepth 16384

noncomputable section

open Idealize.ShloMosaic Idealize.ShloMosaic.TcCoe Idealize.SL.Sem

namespace Cert.Calls.Mem

open Cert.Reference5Ideal Cert.Reference5Ideal.Read

/-- The word the largest score starts from is minus infinity. -/
theorem ofBits_bot : Ideal.ofBits .f32 0xFF800000#32 = ⊥ := by simp [Ideal.ofBits, Ideal.ieee]

/-- The largest along the last axis of an array of four axes. -/
theorem reduceMax4 {n0 n1 n2 n3 : ℕ} {u : Shape} (y : FVec Ideal (⟨4, ![n0, n1, n2, n3]⟩ : Shape) .f32)
    (z : FVec Ideal u .f32) (h : (⟨4, ![n0, n1, n2, n3]⟩ : Shape).ReducesTo [3] (⟨3, ![n0, n1, n2]⟩ : Shape))
    (hu : 0 < u.numel) (b : Fin n0) (g : Fin n1) (q : Fin n2) :
    Host.reduce FloatOps.maximumf y z h hu (ix3 b g q)
      = Finset.univ.fold max (z (Shape.Idx.first hu)) (fun k : Fin n3 => y (ix4 b g q k)) := by
  rw [Host.reduce_eq_fold, Shape.ReducesTo.fold_fiber_r4_a3]
  rfl

section

variable (x : (⟨S4x2048x4096, .f32⟩ : BufTy).Contents (Elt Ideal)) (g : (⟨S4096, .f32⟩ : BufTy).Contents (Elt Ideal))
  (w : (⟨S4096x1024, .f32⟩ : BufTy).Contents (Elt Ideal)) (kv : (⟨S1024x2048, .bf16⟩ : BufTy).Contents (Elt Ideal))
  (wo : (⟨S1024x4096, .f32⟩ : BufTy).Contents (Elt Ideal))

/-- The normalised row of a position, times a column of the query weights. -/
def query (b : Fin 4) (q : Fin 2048) (n : Fin 1024) : EReal :=
  ∑ k : Fin 4096, rms 0x45800000#32 (fun k => x (ix3 b q k)) (fun k => g (ix1 k)) k * w (ix2 k n)

/-- The normalised row of the reference. -/
theorem normAt (b : Fin 4) (q : Fin 2048) (k : Fin 4096) :
    val_main_v12 x g (ix3 b q k) = rms 0x45800000#32 (fun k => x (ix3 b q k)) (fun k => g (ix1 k)) k := by
  pointwise [rms, val_main_v12, val_main_v11, val_main_v10, val_main_v9, val_main_v8, val_main_v7,
    val_main_v6, val_main_cst_1, val_main_v5, val_main_v4, val_main_cst_0, val_main_v3, val_main_v2, val_main_cst, val_main_v1, val_main_v0]

/-- The queries of the reference. -/
theorem queryAt (b : Fin 4) (q : Fin 2048) (n : Fin 1024) : val_main_v15 x g w (ix3 b q n) = query x g w b q n := by
  unfold query
  simp only [← normAt]
  pointwise [val_main_v15]

/-- The queries of a head. -/
theorem headAt (b : Fin 4) (q : Fin 2048) (h : Fin 4) (d : Fin 256) :
    val_main_v16 x g w (ix4 b q h d) = query x g w b q ⟨h.val * 256 + d.val, by omega⟩ := by
  rw [← queryAt]
  unfold val_main_v16
  generalize val_main_v15 x g w = y
  pointwise

/-- The keys of a head. -/
theorem keyAt (b : Fin 4) (k : Fin 256) (h : Fin 4) (d : Fin 256) :
    val_main_v18 kv (ix4 b k h d) = kv (ix2 ⟨b.val * 256 + k.val, by omega⟩ ⟨h.val * 256 + d.val, by omega⟩) := by
  pointwise [val_main_v18, val_main_v17, val_main_v14, val_main_v13]

/-- The values of a head. -/
theorem valueAt (b : Fin 4) (k : Fin 256) (h : Fin 4) (d : Fin 256) :
    val_main_v20 kv (ix4 b k h d) = kv (ix2 ⟨b.val * 256 + k.val, by omega⟩ ⟨1024 + (h.val * 256 + d.val), by omega⟩) := by
  pointwise [val_main_v20, val_main_v19, val_main_v14, val_main_v13]

/-- The scores of a head. -/
theorem scoreAt (b h : Fin 4) (q : Fin 2048) (k : Fin 256) :
    val_main_v23 x g w kv (ix4 b h q k)
      = memScore (fun d => query x g w b q ⟨h.val * 256 + d.val, by omega⟩)
          (fun d => kv (ix2 ⟨b.val * 256 + k.val, by omega⟩ ⟨h.val * 256 + d.val, by omega⟩)) := by
  simp only [← headAt, ← keyAt]
  unfold memScore val_main_v23 val_main_v21
  generalize val_main_v16 x g w = y
  generalize val_main_v18 kv = z
  pointwise [val_main_v22, val_main_cst_2]

/-- The largest of a query's scores. -/
theorem topAt (b h : Fin 4) (q : Fin 2048) :
    val_main_v26 x g w kv (ix3 b h q) = top (fun k : Fin 256 => val_main_v23 x g w kv (ix4 b h q k)) := by
  have e1 : val_main_v24 x g w kv (ix3 b h q) = top (fun k : Fin 256 => val_main_v23 x g w kv (ix4 b h q k)) := by
    unfold top
    rw [← ofBits_bot]
    unfold val_main_v24 val_main_cst_3
    generalize val_main_v23 x g w kv = y
    exact reduceMax4 y _ _ _ b h q
  have e2 : val_main_v25 (F := Ideal) (ix3 b h q) = ⊥ := by
    rw [← ofBits_bot]
    pointwise [val_main_v25, val_main_cst_4]
  rw [val_main_v26_apply, e1, e2, Ideal.maximumf_eq_max]
  exact max_eq_right bot_le

/-- A key's exponential. -/
theorem expAt (b h : Fin 4) (q : Fin 2048) (k : Fin 256) :
    val_main_v30 x g w kv (ix4 b h q k)
      = Ideal.exp (val_main_v23 x g w kv (ix4 b h q k) - top (fun k : Fin 256 => val_main_v23 x g w kv (ix4 b h q k))) := by
  rw [← topAt]
  pointwise [val_main_v30, val_main_v29, val_main_v28, val_main_v27]

/-- A key's weight. -/
theorem shareAt (b h : Fin 4) (q : Fin 2048) (k : Fin 256) :
    val_main_v34 x g w kv (ix4 b h q k) = share (fun k : Fin 256 => val_main_v23 x g w kv (ix4 b h q k)) k := by
  have e : val_main_v34 x g w kv (ix4 b h q k)
      = Ideal.div (val_main_v30 x g w kv (ix4 b h q k)) (∑ j : Fin 256, val_main_v30 x g w kv (ix4 b h q j)) := by
    unfold val_main_v34 val_main_v33 val_main_v32 val_main_v31
    generalize val_main_v30 x g w kv = y
    pointwise [val_main_cst_5]
  rw [e]
  simp only [expAt]
  rfl

/-- The attention's result at a position and a head's column. -/
theorem attAt (b : Fin 4) (q : Fin 2048) (h : Fin 4) (d : Fin 256) :
    val_main_v37 x g w kv (ix3 b q ⟨h.val * 256 + d.val, by omega⟩)
      = ∑ k : Fin 256, val_main_v20 kv (ix4 b k h d) * val_main_v34 x g w kv (ix4 b h q k) := by
  unfold val_main_v37 val_main_v36 val_main_v35
  generalize val_main_v34 x g w kv = y
  generalize val_main_v20 kv = z
  pointwise

/-- The reference at an index. -/
theorem outAt (a : Fin 8192) (n : Fin 4096) :
    val_main_v40 x g w kv wo (ix2 a n) = x (ix3 ⟨a.val / 2048, by omega⟩ ⟨a.val % 2048, by omega⟩ n)
      + ∑ c : Fin 1024, val_main_v37 x g w kv (ix3 ⟨a.val / 2048, by omega⟩ ⟨a.val % 2048, by omega⟩ c) * wo (ix2 c n) := by
  unfold val_main_v40 val_main_v39 val_main_v38
  generalize val_main_v37 x g w kv = y
  pointwise

end

end Cert.Calls.Mem

end
-- ==== Proof.Calls.MemPay.lean ====
/- Cross-attention over the memory: what the kernel computes from its blocks, at an index. -/
module

public import proofs.«01_k».proof.Proof.Gen.Kernel5Ideal.Value
public import Idealize.ShloMosaic.Lib.Pipeline.ValueKit
public import Idealize.ShloMosaic.Lib.Pointwise
public import proofs.«01_k».proof.Proof.Calls.MemRef

@[expose] public section

set_option maxRecDepth 16384

noncomputable section

open Idealize.ShloMosaic Idealize.ShloMosaic.TcCoe Idealize.SL.Sem

namespace Cert.Calls.Mem

open Cert.Kernel5Ideal Cert.Kernel5Ideal.Gen

/-- The scores of row `a` at the head whose queries start at column `o`. -/
def scores (Q : FVec Ideal S512x1024 .bf16) (o : ℕ) (ho : o + 256 ≤ 1024) (K : Vec Ideal S256x256 .bf16) (a : Fin 512) (j : Fin 256) : EReal :=
  memScore (fun d => Q (ix2 a ⟨o + d.val, by omega⟩)) (fun d => K (ix2 j d))

/-- The head's result from its scores and values. -/
def mean (s : Fin 256 → EReal) (V : Vec Ideal S256x256 .bf16) (d : Fin 256) : EReal := ∑ j, shareInv s j * V (ix2 j d)

/-- The queries' block. -/
theorem payQuery (x : Vec Ideal S512x4096 .f32) (g : Vec Ideal S1x4096 .f32) (w : Vec Ideal S4096x1024 .bf16) (a : Fin 512) (b : Fin 1024) :
    k0_pay3 x g w (ix2 a b) = ∑ k : Fin 4096, rms 0x45800000#32 (fun k => x (ix2 a k)) (fun k => g (ix2 0 k)) k * w (ix2 k b) := by
  pointwise [k0_pay3, k0_pay2, rms]

/-- The first head's weights. -/
theorem payShare0 (x : Vec Ideal S512x4096 .f32) (g : Vec Ideal S1x4096 .f32) (w : Vec Ideal S4096x1024 .bf16) (K : Vec Ideal S256x256 .bf16)
    (a : Fin 512) (j : Fin 256) :
    k0_pay4 x g w K (ix2 a j) = shareInv (scores (k0_pay3 x g w) 0 (by omega) K a) j := by
  unfold k0_pay4 shareInv total top scores memScore
  generalize k0_pay3 x g w = Q
  rw [← ofBits_bot]
  pointwise

/-- The first head's result. -/
theorem payMean0 (V : Vec Ideal S256x256 .bf16) (P : FVec Ideal S512x256 .bf16) (a : Fin 512) (d : Fin 256) :
    k0_pay5 V P (ix2 a d) = ∑ j : Fin 256, P (ix2 a j) * V (ix2 j d) := by
  pointwise [k0_pay5]

/-- The second head's result. -/
theorem payMean1 (Q : FVec Ideal S512x1024 .bf16) (K V : Vec Ideal S256x256 .bf16) (a : Fin 512) (d : Fin 256) :
    k0_pay6 Q K V (ix2 a d) = mean (scores Q 256 (by omega) K a) V d := by
  unfold mean shareInv total top scores memScore
  rw [← ofBits_bot]
  pointwise [k0_pay6]

/-- The third head's weights. -/
theorem payShare2 (Q : FVec Ideal S512x1024 .bf16) (K : Vec Ideal S256x256 .bf16) (a : Fin 512) (j : Fin 256) :
    k0_pay7 Q K (ix2 a j) = shareInv (scores Q 512 (by omega) K a) j := by
  unfold shareInv total top scores memScore
  rw [← ofBits_bot]
  pointwise [k0_pay7]

/-- Column `c` of the heads' results side by side. -/
def lane (Q : FVec Ideal S512x1024 .bf16) (A B : FVec Ideal S512x256 .bf16) (V2 : Vec Ideal S256x256 .bf16) (P2 : FVec Ideal S512x256 .bf16)
    (K3 V3 : Vec Ideal S256x256 .bf16) (a : Fin 512) (c : Fin 1024) : EReal :=
  if h0 : c.val < 256 then A (ix2 a ⟨c.val, h0⟩)
  else if h1 : c.val - 256 < 256 then B (ix2 a ⟨c.val - 256, by omega⟩)
  else if h2 : c.val - 256 - 256 < 256 then ∑ j : Fin 256, P2 (ix2 a j) * V2 (ix2 j ⟨c.val - 256 - 256, by omega⟩)
  else mean (scores Q 768 (by omega) K3 a) V3 ⟨c.val - 256 - 256 - 256, by omega⟩

/-- The block stored: the block of activations and the heads' results times the output weights. -/
theorem payOut (X : FVec Ideal S512x4096 .f32) (Q : FVec Ideal S512x1024 .bf16) (A B : FVec Ideal S512x256 .bf16)
    (V2 : Vec Ideal S256x256 .bf16) (P2 : FVec Ideal S512x256 .bf16) (K3 V3 : Vec Ideal S256x256 .bf16)
    (W : Vec Ideal S1024x4096 .bf16) (a : Fin 512) (n : Fin 4096) :
    k0_pay1 X Q A B V2 P2 K3 V3 W (ix2 a n) = X (ix2 a n) + ∑ c : Fin 1024, lane Q A B V2 P2 K3 V3 a c * W (ix2 c n) := by
  unfold k0_pay1
  dsimp only
  generalize hc : concatenate S512x1024 1 _ _ = cat
  have hl : ∀ c : Fin 1024, cat (ix2 a c) = lane Q A B V2 P2 K3 V3 a c := by
    intro c
    rw [← hc]
    unfold lane mean shareInv total top scores memScore
    rw [← ofBits_bot]
    by_cases h0 : c.val < 256
    · rw [dif_pos h0]
      pointwise [h0]
    · rw [dif_neg h0]
      by_cases h1 : c.val - 256 < 256
      · rw [dif_pos h1]
        pointwise [h0, h1]
      · rw [dif_neg h1]
        by_cases h2 : c.val - 256 - 256 < 256
        · rw [dif_pos h2]
          pointwise [h0, h1, h2]
        · rw [dif_neg h2]
          pointwise [h0, h1, h2]
  simp only [← hl]
  pointwise

end Cert.Calls.Mem

end
-- ==== Proof.Calls.MemBlock.lean ====
/- Cross-attention over the memory with the residual: the kernel's array is the reference's. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise
public import proofs.«01_k».proof.Proof.Calls.MemPay

@[expose] public section

set_option maxRecDepth 16384

noncomputable section

open Idealize.ShloMosaic Idealize.ShloMosaic.TcCoe Idealize.SL.Sem
open Idealize.ShloMosaic.Pipeline (Dat)

namespace Cert.Calls.Mem

open Cert.Kernel5Ideal Cert.Kernel5Ideal.Gen Cert.Reference5Ideal.Read

variable (m : (ℓ : Loc nD τ sig) → Buf (Elt Ideal) ℓ)

/-- Each window's block index at each grid point: the row block is the point, the memory's block the batch. -/
theorem idx : ∀ t : Fin cfg0.N, win0_0.index t = ![t.val, 0]
    ∧ win0_1.index t = ![0, 0]
    ∧ win0_2.index t = ![0, 0]
    ∧ win0_3.index t = ![t.val / 4, 0]
    ∧ win0_4.index t = ![0, 0]
    ∧ win0_5.index t = ![t.val, 0] :=
  (by decide +kernel : ∀ t : Fin grid0.N, _)

/-- Row `a` of the block of point `t` as a row of the whole array, and its batch and position. -/
abbrev row (t : Fin cfg0.N) (a : Fin 512) : Fin 8192 := ⟨t.val * 512 + a.val, by have := t.isLt; have : cfg0.N = 16 := rfl; omega⟩
abbrev bat (t : Fin cfg0.N) (a : Fin 512) : Fin 4 := ⟨(row t a).val / 2048, by have := (row t a).isLt; omega⟩
abbrev pos (t : Fin cfg0.N) (a : Fin 512) : Fin 2048 := ⟨(row t a).val % 2048, by omega⟩

/-- Row `j` of the memory's block of point `t` as a row of the whole memory. -/
abbrev mrow (t : Fin cfg0.N) (j : Fin 256) : Fin 1024 := ⟨t.val / 4 * 256 + j.val, by have := t.isLt; have : cfg0.N = 16 := rfl; omega⟩

/-- Column `n` of the keys as a column of the keys and values. -/
abbrev keyCol (n : Fin 1024) : Fin 2048 := ⟨n.val, by omega⟩

/-- The activations, the gain, the query weights, the memory's keys and values, the output weights. -/
abbrev acts (c : Dev nD) : (⟨Cert.Reference5Ideal.S4x2048x4096, .f32⟩ : BufTy).Contents (Elt Ideal) := m ((c : Thread nD τ).loc main_arg0)
abbrev gain (c : Dev nD) : (⟨Cert.Reference5Ideal.S4096, .f32⟩ : BufTy).Contents (Elt Ideal) := m ((c : Thread nD τ).loc main_arg1)
abbrev wq (c : Dev nD) : (⟨Cert.Reference5Ideal.S4096x1024, .f32⟩ : BufTy).Contents (Elt Ideal) := m ((c : Thread nD τ).loc main_arg2)
abbrev mem (c : Dev nD) : (⟨Cert.Reference5Ideal.S1024x2048, .bf16⟩ : BufTy).Contents (Elt Ideal) := m ((c : Thread nD τ).loc main_arg3)
abbrev wo (c : Dev nD) : (⟨Cert.Reference5Ideal.S1024x4096, .f32⟩ : BufTy).Contents (Elt Ideal) := m ((c : Thread nD τ).loc main_arg4)

/-- The activations' block at an index. -/
theorem read0 (c : Dev nD) (t : Fin cfg0.N) (a : Fin 512) (b : Fin 4096) :
    iblk m c 0 t (ix2 a b) = acts m c (ix3 (bat t a) (pos t a) b) := by
  have e : ((cfg0.win 0).blk t).view.emb (ix2 a b) = ix2 (row t a) b := by
    blk_ext [idx t]
  show V m c main_v0 (((cfg0.win 0).blk t).view.emb (ix2 a b)) = _
  rw [e]
  entry_read
  pointwise

/-- The gain's row at an index. -/
theorem read1 (c : Dev nD) (t : Fin cfg0.N) (b : Fin 4096) : iblk m c 1 t (ix2 0 b) = gain m c (ix1 b) := by
  blk_simp [iblk, idx t]
  entry_read
  pointwise
  blk_ext [idx t]

/-- The query weights at an index. -/
theorem read2 (c : Dev nD) (t : Fin cfg0.N) (a : Fin 4096) (b : Fin 1024) : iblk m c 2 t (ix2 a b) = wq m c (ix2 a b) := by
  blk_simp [iblk, idx t]
  entry_read
  pointwise
  blk_ext [idx t]

/-- The memory's block at an index. -/
theorem read3 (c : Dev nD) (t : Fin cfg0.N) (a : Fin 256) (b : Fin 2048) : iblk m c 3 t (ix2 a b) = mem m c (ix2 (mrow t a) b) := by
  blk_ext [iblk, V, idx t]

/-- The output weights at an index. -/
theorem read4 (c : Dev nD) (t : Fin cfg0.N) (a : Fin 1024) (b : Fin 4096) : iblk m c 4 t (ix2 a b) = wo m c (ix2 a b) := by
  blk_simp [iblk, idx t]
  entry_read
  pointwise
  blk_ext [idx t]

/-- The reference's attention at row `a` of point `t`'s block and a column. -/
abbrev att (c : Dev nD) (t : Fin cfg0.N) (a : Fin 512) (n : Fin 1024) : EReal :=
  val_main_v37 (acts m c) (gain m c) (wq m c) (mem m c) (ix3 (bat t a) (pos t a) n)

section

variable (hg : ∀ c i, Real? (gain m c i)) (hw : ∀ c i, Real? (wq m c i))
  (hk : ∀ c (r n : Fin 1024), Real? (mem m c (ix2 r (keyCol n))))

include hg hw in
/-- The queries are real. -/
theorem query_real (c : Dev nD) (b : Fin 4) (q : Fin 2048) (n : Fin 1024) : Real? (query (acts m c) (gain m c) (wq m c) b q n) :=
  Real?.sum _ _ fun k => (rms_real _ _ k (hg c _)).mul (hw c _)

include hg hw hk in
/-- A head's result is the reference's at the head's columns. -/
theorem headEq (c : Dev nD) (t : Fin cfg0.N) (Q : FVec Ideal S512x1024 .bf16)
    (hQ : ∀ a n, Q (ix2 a n) = query (acts m c) (gain m c) (wq m c) (bat t a) (pos t a) n) (K U : Vec Ideal S256x256 .bf16)
    (h : Fin 4) (o : ℕ) (ho : o + 256 ≤ 1024) (e : o = h.val * 256)
    (hK : ∀ j d : Fin 256, K (ix2 j d) = mem m c (ix2 (mrow t j) ⟨o + d.val, by omega⟩))
    (hU : ∀ j d : Fin 256, U (ix2 j d) = mem m c (ix2 (mrow t j) ⟨1024 + (o + d.val), by omega⟩))
    (a : Fin 512) (d : Fin 256) (n : Fin 1024) (hn : n.val = o + d.val) :
    mean (scores Q o ho K a) U d = att m c t a n := by
  subst e
  have hb : h.val * 256 + d.val < 1024 := by omega
  obtain rfl : n = ⟨h.val * 256 + d.val, hb⟩ := Fin.ext hn
  have hm : ∀ j : Fin 256, (⟨(bat t a).val * 256 + j.val, by have := (bat t a).isLt; omega⟩ : Fin 1024) = mrow t j := fun j =>
    Fin.ext (by show (t.val * 512 + a.val) / 2048 * 256 + j.val = t.val / 4 * 256 + j.val; omega)
  have hs : scores Q (h.val * 256) ho K a = fun j : Fin 256 => val_main_v23 (acts m c) (gain m c) (wq m c) (mem m c) (ix4 (bat t a) h (pos t a) j) := by
    funext j
    rw [scoreAt, hm]
    unfold scores
    simp only [hQ, hK]
  have hr : ∀ j : Fin 256, Real? (val_main_v23 (acts m c) (gain m c) (wq m c) (mem m c) (ix4 (bat t a) h (pos t a) j)) := by
    intro j
    rw [scoreAt]
    exact memScore_real _ _ (fun d => query_real m hg hw c _ _ _) fun d => hk c _ ⟨h.val * 256 + d.val, by omega⟩
  unfold att
  rw [attAt, hs]
  unfold mean
  refine Finset.sum_congr rfl fun j _ => ?_
  rw [shareInv_eq _ _ (total_ne_zero _ 0 hr), shareAt, valueAt, hm, hU, mul_comm]

include hg hw hk in
/-- The block stored at point `t` is the reference's. -/
theorem point (c : Dev nD) (t : Fin cfg0.N) (K0 U0 K1 U1 K2 U2 K3 U3 : Vec Ideal S256x256 .bf16)
    (hK0 : ∀ j d : Fin 256, K0 (ix2 j d) = mem m c (ix2 (mrow t j) ⟨0 + d.val, by omega⟩))
    (hU0 : ∀ j d : Fin 256, U0 (ix2 j d) = mem m c (ix2 (mrow t j) ⟨1024 + (0 + d.val), by omega⟩))
    (hK1 : ∀ j d : Fin 256, K1 (ix2 j d) = mem m c (ix2 (mrow t j) ⟨256 + d.val, by omega⟩))
    (hU1 : ∀ j d : Fin 256, U1 (ix2 j d) = mem m c (ix2 (mrow t j) ⟨1024 + (256 + d.val), by omega⟩))
    (hK2 : ∀ j d : Fin 256, K2 (ix2 j d) = mem m c (ix2 (mrow t j) ⟨512 + d.val, by omega⟩))
    (hU2 : ∀ j d : Fin 256, U2 (ix2 j d) = mem m c (ix2 (mrow t j) ⟨1024 + (512 + d.val), by omega⟩))
    (hK3 : ∀ j d : Fin 256, K3 (ix2 j d) = mem m c (ix2 (mrow t j) ⟨768 + d.val, by omega⟩))
    (hU3 : ∀ j d : Fin 256, U3 (ix2 j d) = mem m c (ix2 (mrow t j) ⟨1024 + (768 + d.val), by omega⟩))
    (y : S512x4096.Idx) :
    k0_pay1 (k0_pay2 (iblk m c 0 t)) (k0_pay3 (iblk m c 0 t) (iblk m c 1 t) (iblk m c 2 t))
        (k0_pay5 U0 (k0_pay4 (iblk m c 0 t) (iblk m c 1 t) (iblk m c 2 t) K0))
        (k0_pay6 (k0_pay3 (iblk m c 0 t) (iblk m c 1 t) (iblk m c 2 t)) K1 U1) U2
        (k0_pay7 (k0_pay3 (iblk m c 0 t) (iblk m c 1 t) (iblk m c 2 t)) K2) K3 U3 (iblk m c 4 t) y
      = val_main_v40 (acts m c) (gain m c) (wq m c) (mem m c) (wo m c) (((cfg0.win 5).blk t).view.emb y) := by
  obtain ⟨a, n, rfl⟩ : ∃ a n, y = ix2 a n := ⟨y 0, y 1, by blk_ext []⟩
  have e : ((cfg0.win 5).blk t).view.emb (ix2 a n) = ix2 (row t a) n := by
    blk_ext [idx t]
  have hQ : ∀ a n, k0_pay3 (iblk m c 0 t) (iblk m c 1 t) (iblk m c 2 t) (ix2 a n)
      = query (acts m c) (gain m c) (wq m c) (bat t a) (pos t a) n := by
    intro a n
    rw [payQuery]
    simp only [read0, read1, read2]
    rfl
  have hX : k0_pay2 (iblk m c 0 t) (ix2 a n) = acts m c (ix3 (bat t a) (pos t a) n) := by
    rw [← read0]
    generalize iblk m c 0 t = X
    pointwise [k0_pay2]
  have h0 := payShare0 (iblk m c 0 t) (iblk m c 1 t) (iblk m c 2 t) K0 a
  generalize k0_pay4 (iblk m c 0 t) (iblk m c 1 t) (iblk m c 2 t) K0 = P0 at h0 ⊢
  generalize k0_pay3 (iblk m c 0 t) (iblk m c 1 t) (iblk m c 2 t) = Q at hQ h0 ⊢
  rw [e, payOut, hX, outAt]
  refine congrArg _ (Finset.sum_congr rfl fun k _ => ?_)
  rw [read4]
  refine congrArg (· * _) ?_
  unfold lane
  by_cases c0 : k.val < 256
  · rw [dif_pos c0, payMean0]
    simp only [h0]
    exact headEq m hg hw hk c t Q hQ K0 U0 0 0 (by omega) rfl hK0 hU0 a ⟨k.val, c0⟩ k (by show k.val = 0 + k.val; omega)
  · rw [dif_neg c0]
    by_cases c1 : k.val - 256 < 256
    · rw [dif_pos c1, payMean1]
      exact headEq m hg hw hk c t Q hQ K1 U1 1 256 (by omega) rfl hK1 hU1 a ⟨k.val - 256, c1⟩ k (by show k.val = 256 + (k.val - 256); omega)
    · rw [dif_neg c1]
      by_cases c2 : k.val - 256 - 256 < 256
      · rw [dif_pos c2]
        simp only [payShare2]
        exact headEq m hg hw hk c t Q hQ K2 U2 2 512 (by omega) rfl hK2 hU2 a ⟨k.val - 256 - 256, c2⟩ k
          (by show k.val = 512 + (k.val - 256 - 256); omega)
      · rw [dif_neg c2]
        exact headEq m hg hw hk c t Q hQ K3 U3 3 768 (by omega) rfl hK3 hU3 a ⟨k.val - 256 - 256 - 256, by omega⟩ k
          (by show k.val = 768 + (k.val - 256 - 256 - 256); omega)

set_option maxHeartbeats 1000000 in
include hg hw hk in
/-- The array after the run is the reference's. -/
theorem final (c : Dev nD) : (dats m 0 c).arrAt 5 (cfgs 0).N
    = val_main_v40 (acts m c) (gain m c) (wq m c) (mem m c) (wo m c) := by
  refine (dats m 0 c).arrAt_eq_of_covers 5 _ (by decide +kernel) fun t _ y => ?_
  blk_simp; rw [after0_5]
  dsimp only; frame_out [k0_pay8]
  refine point m hg hw hk c t _ _ _ _ _ _ _ _ ?_ ?_ ?_ ?_ ?_ ?_ ?_ ?_ y
  all_goals
    intro j d
    pointwise
    blk_ext [iblk, V, idx t]
    all_goals rfl

end

end Cert.Calls.Mem

end
-- ==== Proof.Calls.Claim5.lean ====
/- The claims about the memory cross-attention. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Calls.MemBlock
public import proofs.«01_k».proof.Proof.Calls.Finite
public import Idealize.ShloMosaic.Lib.Claim
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

namespace Cert.Calls.Claim5

/-- The kernel runs and leaves its arguments unchanged. -/
theorem frame_P : Cert.quiescent_Kernel5 := fun m ρ _ => Cert.Kernel5.Gen.frame m ρ

/-- So does the kernel over the extended reals. -/
theorem frame_PI : Cert.quiescent_Kernel5Ideal := fun m ρ _ => Cert.Kernel5Ideal.Gen.frame m ρ

/-- The reference runs and leaves its arguments unchanged. -/
theorem frame_RI : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The same of the kernel, under the precondition of the value claim. -/
theorem frame_PI_pre : Cert.quiescent_Kernel5Ideal_pre_finite_mem := fun m ρ _ => Cert.Kernel5Ideal.Gen.frame m ρ

/-- The same of the reference, under the precondition of the value claim. -/
theorem frame_RI_pre : Cert.quiescent_Reference5Ideal_pre_finite_mem := fun m ρ _ => frame_RI m ρ trivial

/-- The idealized kernel is the kernel: no operation was rewritten. -/
theorem preserves : Cert.preserves_Kernel5_Kernel5Ideal := trivial

/-- On arguments that satisfy the precondition every entry of the gain is a real number. -/
theorem real_gain (m : (ℓ : Loc Cert.Kernel5Ideal.nD Cert.Kernel5Ideal.τ Cert.Kernel5Ideal.sig) → Buf (Elt Ideal) ℓ)
    (h : Cert.Pre_Kernel5Ideal_finite_mem m) (c : Dev Cert.Kernel5Ideal.nD) (i : Cert.Kernel5Ideal.S4096.Idx) :
    Cert.Calls.Real? (Cert.Calls.Mem.gain m c i) := by
  have h1 := congrFun (h c).1 i
  pointwise [Cert.Pre_finite_mem.fn] at h1
  exact real_of_lt _ h1

/-- Every query weight is. -/
theorem real_weight (m : (ℓ : Loc Cert.Kernel5Ideal.nD Cert.Kernel5Ideal.τ Cert.Kernel5Ideal.sig) → Buf (Elt Ideal) ℓ)
    (h : Cert.Pre_Kernel5Ideal_finite_mem m) (c : Dev Cert.Kernel5Ideal.nD) (i : Cert.Kernel5Ideal.S4096x1024.Idx) :
    Cert.Calls.Real? (Cert.Calls.Mem.wq m c i) := by
  have h1 := congrFun (h c).2.1 i
  pointwise [Cert.Pre_finite_mem.fn] at h1
  exact real_of_lt _ h1

/-- And every key is. -/
theorem real_key (m : (ℓ : Loc Cert.Kernel5Ideal.nD Cert.Kernel5Ideal.τ Cert.Kernel5Ideal.sig) → Buf (Elt Ideal) ℓ)
    (h : Cert.Pre_Kernel5Ideal_finite_mem m) (c : Dev Cert.Kernel5Ideal.nD) (r n : Fin 1024) :
    Cert.Calls.Real? (Cert.Calls.Mem.mem m c (ix2 r (Cert.Calls.Mem.keyCol n))) := by
  have h1 := congrFun (h c).2.2 (ix2 r n)
  pointwise [Cert.Pre_finite_mem.fn] at h1
  exact real_of_lt _ h1

/-- The kernel and the reference compute the same over the extended reals, where gain, query weights and keys are real. -/
theorem algebraic : Cert.algebraic_Kernel5Ideal_Reference5Ideal_pre_finite_mem := by
  pair_intro
  · run_from Cert.Kernel5Ideal.Value.run_blocks m g
  · refine (θ_run _ _ _).mono (fun r h c => ?_) (Cert.Reference5Ideal.Value.run (F := Ideal) m' g')
    have hr := (h c).1
    rw [Cert.Reference5Ideal.Read.val_main_v40_eq] at hr
    refine ⟨hr.trans ?_, (h c).2⟩
    rw [(hagree c).1, (hagree c).2.1, (hagree c).2.2.1, (hagree c).2.2.2.1, (hagree c).2.2.2.2]
    exact (Cert.Calls.Mem.final m (fun c i => real_gain m hpre c i) (fun c i => real_weight m hpre c i)
      (fun c r n => real_key m hpre c r n) c).symm

end Cert.Calls.Claim5

end
-- ==== Proof.Calls.PeerQ.lean ====
/- The product-key queries: the root-mean-square norm, then the projection; the normalised activations are a result too. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import proofs.«01_k».proof.Proof.Calls.Norm

@[expose] public section

set_option maxRecDepth 16384

noncomputable section

open Idealize.ShloMosaic Idealize.ShloMosaic.TcCoe Idealize.SL.Sem
open Idealize.ShloMosaic.Pipeline (Dat)

namespace Cert.Calls.PeerQ

open Cert.Kernel6Ideal Cert.Kernel6Ideal.Gen Cert.Reference6Ideal.Read

variable (m : (ℓ : Loc nD τ sig) → Buf (Elt Ideal) ℓ)

/-- Each window's block index at each grid point: the activations' and the results' own row block, the gain and the
    weights always whole. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- The normalised block at an index. -/
theorem payNorm (x : Vec Ideal S512x4096 .f32) (w : Vec Ideal S1x4096 .f32) (a : Fin 512) (b : Fin 4096) :
    k0_pay1 x w (ix2 a b) = rms 0x45800000#32 (fun k => x (ix2 a k)) (fun k => w (ix2 0 k)) b := by
  pointwise [k0_pay1, rms]

/-- The projected block at an index: the row of the normalised block times the column of the weights. -/
theorem payDot (x : Vec Ideal S512x4096 .bf16) (w : Vec Ideal S4096x2048 .bf16) (a : Fin 512) (b : Fin 2048) :
    k0_pay2 x w (ix2 a b) = ∑ k : Fin 4096, x (ix2 a k) * w (ix2 k b) := by
  pointwise [k0_pay2]

/-- The row of the batch that row `a` of the flattened activations is. -/
abbrev at3 (x : (⟨Cert.Reference6Ideal.S4x2048x4096, .f32⟩ : BufTy).Contents (Elt Ideal)) (a : Fin 8192) (k : Fin 4096) : EReal :=
  x (ix3 ⟨a.val / 2048, by omega⟩ ⟨a.val % 2048, by omega⟩ k)

/-- The reference's normalised activations at an index. -/
theorem refNorm (x : (⟨Cert.Reference6Ideal.S4x2048x4096, .f32⟩ : BufTy).Contents (Elt Ideal))
    (w : (⟨Cert.Reference6Ideal.S4096, .f32⟩ : BufTy).Contents (Elt Ideal)) (a : Fin 8192) (b : Fin 4096) :
    val_main_v16 x w (ix2 a b) = rms 0x45800000#32 (at3 x a) (fun k => w (ix1 k)) b := by
  pointwise [rms, val_main_v16, val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]

/-- The reference's queries at an index. -/
theorem refDot (x : (⟨Cert.Reference6Ideal.S4x2048x4096, .f32⟩ : BufTy).Contents (Elt Ideal))
    (g : (⟨Cert.Reference6Ideal.S4096, .f32⟩ : BufTy).Contents (Elt Ideal))
    (w : (⟨Cert.Reference6Ideal.S4096x2048, .f32⟩ : BufTy).Contents (Elt Ideal)) (a : Fin 8192) (b : Fin 2048) :
    val_main_v15 x g w (ix2 a b)
      = ∑ k : Fin 4096, rms 0x45800000#32 (at3 x a) (fun k => g (ix1 k)) k * w (ix2 k b) := by
  pointwise [rms, val_main_v15, val_main_v14, val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]

/-- Row `a` of the block of point `t` as a row of the whole array. -/
abbrev row (t : Fin cfg0.N) (a : Fin 512) : Fin 8192 := ⟨t.val * 512 + a.val, by have := t.isLt; have : cfg0.N = 16 := rfl; omega⟩

/-- The activations' block at an index. -/
theorem read0 (c : Dev nD) (t : Fin cfg0.N) (a : Fin 512) (b : Fin 4096) :
    iblk m c 0 t (ix2 a b) = at3 (m ((c : Thread nD τ).loc main_arg0)) (row t a) b := by
  blk_simp [iblk, idx t]
  entry_read
  pointwise
  blk_ext [idx t]

/-- The gain's row at an index. -/
theorem read1 (c : Dev nD) (t : Fin cfg0.N) (b : Fin 4096) :
    iblk m c 1 t (ix2 0 b) = m ((c : Thread nD τ).loc main_arg1) (ix1 b) := by
  blk_simp [iblk, idx t]
  entry_read
  pointwise
  blk_ext [idx t]

/-- The weights at an index. -/
theorem read2 (c : Dev nD) (t : Fin cfg0.N) (a : Fin 4096) (b : Fin 2048) :
    iblk m c 2 t (ix2 a b) = m ((c : Thread nD τ).loc main_arg2) (ix2 a b) := by
  blk_simp [iblk, idx t]
  entry_read
  pointwise
  blk_ext [idx t]

/-- What the body stores of the queries at point `t` is the reference's element there. -/
theorem pointQ (c : Dev nD) (t : Fin cfg0.N) (y : S512x2048.Idx) :
    k0_pay2 (k0_pay1 (iblk m c 0 t) (iblk m c 1 t)) (iblk m c 2 t) y
      = val_main_v15 (m ((c : Thread nD τ).loc main_arg0)) (m ((c : Thread nD τ).loc main_arg1)) (m ((c : Thread nD τ).loc
        main_arg2)) (((cfg0.win 3).blk t).view.emb y) := by
  obtain ⟨a, b, rfl⟩ : ∃ a b, y = ix2 a b := ⟨y 0, y 1, by blk_ext []⟩
  have e : ((cfg0.win 3).blk t).view.emb (ix2 a b) = ix2 (row t a) b := by
    blk_ext [idx t]
  rw [e, payDot, refDot]; simp only [payNorm, read0, read1, read2]

/-- What the body stores of the normalised activations at point `t` is the reference's element there. -/
theorem pointN (c : Dev nD) (t : Fin cfg0.N) (y : S512x4096.Idx) :
    k0_pay1 (iblk m c 0 t) (iblk m c 1 t) y
      = val_main_v16 (m ((c : Thread nD τ).loc main_arg0)) (m ((c : Thread nD τ).loc main_arg1))
        (((cfg0.win 4).blk t).view.emb y) := by
  obtain ⟨a, b, rfl⟩ : ∃ a b, y = ix2 a b := ⟨y 0, y 1, by blk_ext []⟩
  have e : ((cfg0.win 4).blk t).view.emb (ix2 a b) = ix2 (row t a) b := by
    blk_ext [idx t]
  rw [e, payNorm, refNorm]; simp only [read0, read1]

/-- The queries' array after the run is the reference's. -/
theorem finalQ (c : Dev nD) : (dats m 0 c).arrAt 3 (cfgs 0).N
    = val_main_v15 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp; rw [after0_3]; unfold outsAt0; dsimp only; frame_out
  exact pointQ m c t y

/-- The normalised activations' array after the run is the reference's. -/
theorem finalN (c : Dev nD) : (dats m 0 c).arrAt 4 (cfgs 0).N
    = val_main_v16 (m ((c : Thread nD τ).loc main_arg0)) (m ((c : Thread nD τ).loc main_arg1)) := by
  refine (dats m 0 c).arrAt_eq_of_covers 4 _ (by decide +kernel) fun t _ y => ?_
  blk_simp; rw [after0_4]; unfold outsAt0; dsimp only; frame_out
  exact pointN m c t y

end Cert.Calls.PeerQ

end
-- ==== Proof.Calls.Claim6.lean ====
/- The claims about the projection to the product-key queries. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Calls.PeerQ
public import Idealize.ShloMosaic.Lib.Claim
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

namespace Cert.Calls.Claim6

/-- The kernel runs and leaves its arguments unchanged. -/
theorem frame_P : Cert.quiescent_Kernel6 := fun m ρ _ => Cert.Kernel6.Gen.frame m ρ

/-- So does the kernel over the extended reals. -/
theorem frame_PI : Cert.quiescent_Kernel6Ideal := fun m ρ _ => Cert.Kernel6Ideal.Gen.frame m ρ

/-- The reference runs and leaves its arguments unchanged. -/
theorem frame_RI : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The idealized kernel is the kernel: no operation was rewritten. -/
theorem preserves : Cert.preserves_Kernel6_Kernel6Ideal := trivial

/-- The kernel and the reference compute the same over the extended reals. -/
theorem algebraic : Cert.algebraic_Kernel6Ideal_Reference6Ideal := by
  pair_intro
  · run_from Cert.Kernel6Ideal.Value.run_blocks m g
  · hlo_run
    · exact (Cert.Reference6Ideal.Read.val_main_v15_eq _ _ _).trans (Cert.Calls.PeerQ.finalQ m c).symm
    · exact (Cert.Reference6Ideal.Read.val_main_v16_eq _ _).trans (Cert.Calls.PeerQ.finalN m c).symm

end Cert.Calls.Claim6

end
-- ==== Proof.Calls.AddNorm.lean ====
/- The last call: the peer output's transpose added to the residual, and the final root-mean-square norm. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import proofs.«01_k».proof.Proof.Calls.Norm

@[expose] public section

set_option maxRecDepth 16384

noncomputable section

open Idealize.ShloMosaic Idealize.ShloMosaic.TcCoe Idealize.SL.Sem
open Idealize.ShloMosaic.Pipeline (Dat)

namespace Cert.Calls.AddNorm

open Cert.Kernel7Ideal Cert.Kernel7Ideal.Gen Cert.Reference7Ideal.Read

variable (m : (ℓ : Loc nD τ sig) → Buf (Elt Ideal) ℓ)

/-- Each window's block index at each grid point: the point's own row block, the weight row always the first. -/
theorem idx : ∀ t : Fin cfg0.N, win0_0.index t = ![t.val, 0]
    ∧ win0_1.index t = ![0, t.val]
    ∧ win0_2.index t = ![0, 0]
    ∧ win0_3.index t = ![t.val, 0] :=
  (by decide +kernel : ∀ t : Fin grid0.N, _)

/-- The payload at an index: the norm of the row's sum of the residual's and the transposed peer's elements. -/
theorem payload (x : Vec Ideal S256x4096 .f32) (p : Vec Ideal S4096x256 .f32) (w : Vec Ideal S1x4096 .f32)
    (a : Fin 256) (b : Fin 4096) :
    k0_pay1 x p w (ix2 a b)
      = rms 0x45800000#32 (fun k => x (ix2 a k) + p (ix2 k a)) (fun k => w (ix2 0 k)) b := by
  pointwise [k0_pay1, rms]

/-- The reference at an index: the same norm of the row of the batch that the index names. -/
theorem reference (x : (⟨Cert.Reference7Ideal.S4x2048x4096, .f32⟩ : BufTy).Contents (Elt Ideal))
    (p : (⟨Cert.Reference7Ideal.S4096x8192, .f32⟩ : BufTy).Contents (Elt Ideal))
    (w : (⟨Cert.Reference7Ideal.S4096, .f32⟩ : BufTy).Contents (Elt Ideal)) (a : Fin 8192) (b : Fin 4096) :
    val_main_v16 x p w (ix2 a b)
      = rms 0x45800000#32 (fun k => x (ix3 ⟨a.val / 2048, by omega⟩ ⟨a.val % 2048, by omega⟩ k) + p (ix2 k a)) (fun k => w (ix1 k)) b := by
  pointwise [rms, val_main_v16, val_main_v15, val_main_v14, val_main_v13, val_main_v12, val_main_v11, val_main_v10,
    val_main_v9, val_main_v8, val_main_cst_1, val_main_v7, val_main_v6, val_main_cst_0, val_main_v5, val_main_v4,
    val_main_cst, val_main_v3, val_main_v2, val_main_v1, val_main_v0]

/-- Row `a` of the block of point `t` as a row of the whole array. -/
abbrev row (t : Fin cfg0.N) (a : Fin 256) : Fin 8192 := ⟨t.val * 256 + a.val, by have := t.isLt; have : cfg0.N = 32 := rfl; omega⟩

/-- The residual's block at an index. -/
theorem read0 (c : Dev nD) (t : Fin cfg0.N) (a : Fin 256) (b : Fin 4096) :
    iblk m c 0 t (ix2 a b) = m ((c : Thread nD τ).loc main_arg0)
      (ix3 ⟨(row t a).val / 2048, by omega⟩ ⟨(row t a).val % 2048, by omega⟩ b) := by
  blk_simp [iblk, idx t]
  entry_read
  pointwise
  blk_ext [idx t]

theorem read1 (c : Dev nD) (t : Fin cfg0.N) (a : Fin 256) (b : Fin 4096) :
    iblk m c 1 t (ix2 b a) = m ((c : Thread nD τ).loc main_arg1) (ix2 b (row t a)) := by
  blk_point [iblk, V, idx t]

theorem read2 (c : Dev nD) (t : Fin cfg0.N) (b : Fin 4096) :
    iblk m c 2 t (ix2 0 b) = m ((c : Thread nD τ).loc main_arg2) (ix1 b) := by
  blk_simp [iblk, idx t]
  entry_read
  pointwise
  blk_ext [idx t]

/-- What the body stores at index `y` of the block of point `t` is the reference's element there. -/
theorem point (c : Dev nD) (t : Fin cfg0.N) (y : S256x4096.Idx) :
    k0_pay1 (iblk m c 0 t) (iblk m c 1 t) (iblk m c 2 t) y
      = val_main_v16 (m ((c : Thread nD τ).loc main_arg0)) (m ((c : Thread nD τ).loc main_arg1)) (m ((c : Thread nD τ).loc
        main_arg2)) (((cfg0.win 3).blk t).view.emb y) := by
  obtain ⟨a, b, rfl⟩ : ∃ a b, y = ix2 a b := ⟨y 0, y 1, by blk_ext []⟩
  have e : ((cfg0.win 3).blk t).view.emb (ix2 a b) = ix2 (row t a) b := by
    blk_ext [idx t]
  rw [e, payload, reference]
  simp only [read0, read1, read2]

/-- The call's result array after the run is the reference's result. -/
theorem final (c : Dev nD) : (dats m 0 c).arrAt 3 (cfgs 0).N
    = val_main_v16 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp; rw [after0_3]; frame_out
  exact point m c t y

end Cert.Calls.AddNorm

end
-- ==== Proof.Calls.Claim7.lean ====
/- The claims about the last residual and norm. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Calls.AddNorm
public import Idealize.ShloMosaic.Lib.Claim
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

namespace Cert.Calls.Claim7

/-- The kernel runs and leaves its arguments unchanged. -/
theorem frame_P : Cert.quiescent_Kernel7 := fun m ρ _ => Cert.Kernel7.Gen.frame m ρ

/-- So does the kernel over the extended reals. -/
theorem frame_PI : Cert.quiescent_Kernel7Ideal := fun m ρ _ => Cert.Kernel7Ideal.Gen.frame m ρ

/-- The reference runs and leaves its arguments unchanged. -/
theorem frame_RI : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The idealized kernel is the kernel: no operation was rewritten. -/
theorem preserves : Cert.preserves_Kernel7_Kernel7Ideal := trivial

/-- The kernel and the reference compute the same over the extended reals. -/
theorem algebraic : Cert.algebraic_Kernel7Ideal_Reference7Ideal := by
  pair_intro
  · run_from Cert.Kernel7Ideal.Value.run_blocks m g
  · hlo_run
    exact (Cert.Reference7Ideal.Read.val_main_v16_eq _ _ _).trans (Cert.Calls.AddNorm.final m c).symm

end Cert.Calls.Claim7

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Calls.Claim1
public import proofs.«01_k».proof.Proof.Calls.Claim2
public import proofs.«01_k».proof.Proof.Calls.Claim3
public import proofs.«01_k».proof.Proof.Calls.Claim4
public import proofs.«01_k».proof.Proof.Calls.Claim5
public import proofs.«01_k».proof.Proof.Calls.Claim6
public import proofs.«01_k».proof.Proof.Calls.Claim7
public import Idealize.ShloMosaic.Adequacy
public import Idealize.ShloMosaic.Init

@[expose] public section

noncomputable section

namespace Cert.Proof

open Idealize.ShloMosaic Idealize.SL.Sem Cert.Kernel

/-- Every claim of the certificate: the seven calls of the layer, each with its reference. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Calls.factsQkv,
  Cert.Calls.factsMem,
  Cert.Calls.Claim1.frame_P,
  Cert.Calls.Claim1.frame_PI,
  Cert.Calls.Claim1.frame_PI_pre,
  Cert.Calls.Claim1.frame_RI,
  Cert.Calls.Claim1.frame_RI_pre,
  Cert.Calls.Claim2.frame_P,
  Cert.Calls.Claim2.frame_PI,
  Cert.Calls.Claim2.frame_RI,
  Cert.Calls.Claim3.frame_P,
  Cert.Calls.Claim3.frame_PI,
  Cert.Calls.Claim3.frame_RI,
  Cert.Calls.Claim4.frame_P,
  Cert.Calls.Claim4.frame_PI,
  Cert.Calls.Claim4.frame_RI,
  Cert.Calls.Claim5.frame_P,
  Cert.Calls.Claim5.frame_PI,
  Cert.Calls.Claim5.frame_PI_pre,
  Cert.Calls.Claim5.frame_RI,
  Cert.Calls.Claim5.frame_RI_pre,
  Cert.Calls.Claim6.frame_P,
  Cert.Calls.Claim6.frame_PI,
  Cert.Calls.Claim6.frame_RI,
  Cert.Calls.Claim7.frame_P,
  Cert.Calls.Claim7.frame_PI,
  Cert.Calls.Claim7.frame_RI,
  Cert.Calls.Claim1.preserves,
  Cert.Calls.Claim1.algebraic,
  Cert.Calls.Claim2.preserves,
  Cert.Calls.Claim2.algebraic,
  Cert.Calls.Claim3.preserves,
  Cert.Calls.Claim3.algebraic,
  Cert.Calls.Claim4.preserves,
  Cert.Calls.Claim4.algebraic,
  Cert.Calls.Claim5.preserves,
  Cert.Calls.Claim5.algebraic,
  Cert.Calls.Claim6.preserves,
  Cert.Calls.Claim6.algebraic,
  Cert.Calls.Claim7.preserves,
  Cert.Calls.Claim7.algebraic⟩

end Cert.Proof

end
